-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 2, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.blockN ⟨4, ![2, 512, 8, 64]⟩ ⟨4, ![2, 2048, 8, 64]⟩ (Layout.meshBlock [2, 2, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  let main_v6 : IVec S2x512x8x64 1 := andi main_v2 main_v5
  main_v6
-- ==== Pre_finite_ReferenceIdeal.lean ====
abbrev S2x2048x8x64 : Shape := ⟨4, ![2, 2048, 8, 64]⟩
abbrev S_ : Shape := ⟨0, ![]⟩

class Facts : Prop where
  bcast_S_S2x2048x8x64 : S_.BroadcastsInDim S2x2048x8x64 (![] : Fin 0 → Fin S2x2048x8x64.rank)

variable [Facts]

def fn {F : FTy → Type} [FloatOps F] (main_arg0 : FVec F S2x2048x8x64 .bf16) (main_arg1 : FVec F S2x2048x8x64 .bf16) (main_arg2 : FVec F S2x2048x8x64 .bf16) : IVec S2x2048x8x64 1 :=
  let main_v0 : FVec F S2x2048x8x64 .bf16 := Host.absf main_arg0
  let main_cst : FVec F S_ .bf16 := constant S_ .bf16 0x7F80#16
  let main_v1 : FVec F S2x2048x8x64 .bf16 := broadcastInDim S2x2048x8x64 ![] bcast_S_S2x2048x8x64 main_cst
  let main_v2 : IVec S2x2048x8x64 1 := cmpf .olt main_v0 main_v1
  let main_v3 : FVec F S2x2048x8x64 .bf16 := Host.absf main_arg1
  let main_cst_0 : FVec F S_ .bf16 := constant S_ .bf16 0x7F80#16
  let main_v4 : FVec F S2x2048x8x64 .bf16 := broadcastInDim S2x2048x8x64 ![] bcast_S_S2x2048x8x64 main_cst_0
  let main_v5 : IVec S2x2048x8x64 1 := cmpf .olt main_v3 main_v4
  let main_v6 : IVec S2x2048x8x64 1 := andi main_v2 main_v5
  main_v6
-- ==== Kernel.lean ====
abbrev S2x512x8x64 : Shape := ⟨4, ![2, 512, 8, 64]⟩
abbrev S_ : Shape := ⟨0, ![]⟩
abbrev S2x8x512x64 : Shape := ⟨4, ![2, 8, 512, 64]⟩
abbrev S2x4x2x512x64 : Shape := ⟨5, ![2, 4, 2, 512, 64]⟩
abbrev S2x4x512x2x64 : Shape := ⟨5, ![2, 4, 512, 2, 64]⟩
abbrev S2x4x512x128 : Shape := ⟨4, ![2, 4, 512, 128]⟩
abbrev S4x2x4x512x128 : Shape := ⟨5, ![4, 2, 4, 512, 128]⟩
abbrev S3 : Shape := ⟨1, ![3]⟩
abbrev S1x2x4x512x128 : Shape := ⟨5, ![1, 2, 4, 512, 128]⟩
abbrev S1 : Shape := ⟨1, ![1]⟩
abbrev S1x1x512x128 : Shape := ⟨4, ![1, 1, 512, 128]⟩
abbrev S512x128 : Shape := ⟨2, ![512, 128]⟩
abbrev S1x1x1x512x128 : Shape := ⟨5, ![1, 1, 1, 512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x512x4x2x64 : Shape := ⟨5, ![2, 512, 4, 2, 64]⟩

abbrev nBuf : Space → Nat
  | .hbm => 22
  | .vmem => 6
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S_, .bf16⟩
  | .hbm, ⟨4, _⟩ => ⟨S2x512x8x64, .bf16⟩
  | .hbm, ⟨5, _⟩ => ⟨S2x512x8x64, .bf16⟩
  | .hbm, ⟨6, _⟩ => ⟨S2x8x512x64, .bf16⟩
  | .hbm, ⟨7, _⟩ => ⟨S2x4x2x512x64, .bf16⟩
  | .hbm, ⟨8, _⟩ => ⟨S2x4x512x2x64, .bf16⟩
  | .hbm, ⟨9, _⟩ => ⟨S2x4x512x128, .bf16⟩
  | .hbm, ⟨10, _⟩ => ⟨S2x8x512x64, .bf16⟩
  | .hbm, ⟨11, _⟩ => ⟨S2x4x2x512x64, .bf16⟩
  | .hbm, ⟨12, _⟩ => ⟨S2x4x512x2x64, .bf16⟩
  | .hbm, ⟨13, _⟩ => ⟨S2x4x512x128, .bf16⟩
  | .hbm, ⟨14, _⟩ => ⟨S2x8x512x64, .bf16⟩
  | .hbm, ⟨15, _⟩ => ⟨S2x4x2x512x64, .bf16⟩
  | .hbm, ⟨16, _⟩ => ⟨S2x4x512x2x64, .bf16⟩
  | .hbm, ⟨17, _⟩ => ⟨S2x4x512x128, .bf16⟩
  | .hbm, ⟨18, _⟩ => ⟨S2x4x512x128, .f32⟩
  | .hbm, ⟨19, _⟩ => ⟨S2x4x512x2x64, .f32⟩
  | .hbm, ⟨20, _⟩ => ⟨S2x512x4x2x64, .f32⟩
  | .hbm, ⟨21, _⟩ => ⟨S2x512x8x64, .f32⟩
  | .local _ .vmem, ⟨0, _⟩ => ⟨S2x4x512x128, .bf16⟩
  | .local _ .vmem, ⟨1, _⟩ => ⟨S2x4x512x128, .bf16⟩
  | .local _ .vmem, ⟨2, _⟩ => ⟨S2x4x512x128, .bf16⟩
  | .local _ .vmem, ⟨3, _⟩ => ⟨S2x4x512x128, .f32⟩
  | .local _ .vmem, ⟨4, _⟩ => ⟨S4x2x4x512x128, .bf16⟩
  | .local _ .vmem, ⟨5, _⟩ => ⟨S4x2x4x512x128, .bf16⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 2 → Bool
  | ⟨0, _⟩ => false
  | ⟨1, _⟩ => true
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 2 16 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v21 : BitVec 32 := Scalar.muli v2 c8_i32_9
  let v22 : BitVec 32 := Scalar.addi c0_i32_10 v21
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v23 : BitVec 32 := Scalar.muli v5 c4_i32_11
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c4_i32_3 : BitVec 32 := 4#32
  let c0_i32 : BitVec 32 := 0#32
  let v11 : BitVec 1 := Scalar.cmpi .eq c4_i32_3 c0_i32
  let c1_i32_4 : BitVec 32 := 1#32
  let v12 : BitVec 32 := Scalar.select v11 c1_i32_4 c4_i32_3
  let v13 : BitVec 32 := Scalar.remsi v10 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let c1_i32_12 : BitVec 32 := 1#32
  let v25 : BitVec 32 := Scalar.muli v20 c1_i32_12
  let v26 : BitVec 32 := Scalar.addi v24 v25
  v26.toNat
def k0_dev2 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v38 : BitVec 32 := Scalar.muli v2 c8_i32_21
  let v39 : BitVec 32 := Scalar.addi c0_i32_22 v38
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_13 : BitVec 32 := 2#32
  let v27 : BitVec 32 := Scalar.addi v8 c2_i32_13
  let c4_i32_14 : BitVec 32 := 4#32
  let c0_i32_15 : BitVec 32 := 0#32
  let v28 : BitVec 1 := Scalar.cmpi .eq c4_i32_14 c0_i32_15
  let c1_i32_16 : BitVec 32 := 1#32
  let v29 : BitVec 32 := Scalar.select v28 c1_i32_16 c4_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c1_i32_24 : BitVec 32 := 1#32
  let v42 : BitVec 32 := Scalar.muli v37 c1_i32_24
  let v43 : BitVec 32 := Scalar.addi v41 v42
  v43.toNat
def k0_dev3 (d0 : Dev nD) : Nat :=
  let c0_i32_33 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_32 : BitVec 32 := 8#32
  let v55 : BitVec 32 := Scalar.muli v2 c8_i32_32
  let v56 : BitVec 32 := Scalar.addi c0_i32_33 v55
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v57 : BitVec 32 := Scalar.muli v5 c4_i32_34
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v44 : BitVec 32 := Scalar.addi v8 c3_i32
  let c4_i32_25 : BitVec 32 := 4#32
  let c0_i32_26 : BitVec 32 := 0#32
  let v45 : BitVec 1 := Scalar.cmpi .eq c4_i32_25 c0_i32_26
  let c1_i32_27 : BitVec 32 := 1#32
  let v46 : BitVec 32 := Scalar.select v45 c1_i32_27 c4_i32_25
  let v47 : BitVec 32 := Scalar.remsi v44 v46
  let c0_i32_29 : BitVec 32 := 0#32
  let v49 : BitVec 1 := Scalar.cmpi .slt v47 c0_i32_29
  let c0_i32_30 : BitVec 32 := 0#32
  let v50 : BitVec 1 := Scalar.cmpi .slt v46 c0_i32_30
  let v51 : BitVec 1 := Scalar.xori v49 v50
  let c0_i32_28 : BitVec 32 := 0#32
  let v48 : BitVec 1 := Scalar.cmpi .ne v47 c0_i32_28
  let v52 : BitVec 1 := Scalar.andi v51 v48
  let v53 : BitVec 32 := Scalar.addi v47 v46
  let v54 : BitVec 32 := Scalar.select v52 v53 v47
  let c1_i32_35 : BitVec 32 := 1#32
  let v59 : BitVec 32 := Scalar.muli v54 c1_i32_35
  let v60 : BitVec 32 := Scalar.addi v58 v59
  v60.toNat
def k0_off1 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v63 : Index := Scalar.indexCast v8
  let c0_40 : Index := 0#32
  let c0_41 : Index := 0#32
  let c0_42 : Index := 0#32
  let c0_43 : Index := 0#32
  ![v63.toNat, 0, 0, 0, 0]
def k0_off2 (d0 : Dev nD) : Fin 5 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_65 : BitVec 32 := 0#32
  let c0_i32_66 : BitVec 32 := 0#32
  let c0_i32_67 : BitVec 32 := 0#32
  let c0_i32_68 : BitVec 32 := 0#32
  ![v8.toNat, 0, 0, 0, 0]
def k0_dev4 (d0 : Dev nD) : Nat :=
  let c0_i32_62 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_61 : BitVec 32 := 8#32
  let v84 : BitVec 32 := Scalar.muli v2 c8_i32_61
  let v85 : BitVec 32 := Scalar.addi c0_i32_62 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v86 : BitVec 32 := Scalar.muli v5 c4_i32_63
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v73 : BitVec 32 := Scalar.addi v8 c1_i32_52
  let c4_i32_53 : BitVec 32 := 4#32
  let c0_i32_54 : BitVec 32 := 0#32
  let v74 : BitVec 1 := Scalar.cmpi .eq c4_i32_53 c0_i32_54
  let c1_i32_55 : BitVec 32 := 1#32
  let v75 : BitVec 32 := Scalar.select v74 c1_i32_55 c4_i32_53
  let v76 : BitVec 32 := Scalar.remsi v73 v75
  let c0_i32_57 : BitVec 32 := 0#32
  let v78 : BitVec 1 := Scalar.cmpi .slt v76 c0_i32_57
  let c0_i32_58 : BitVec 32 := 0#32
  let v79 : BitVec 1 := Scalar.cmpi .slt v75 c0_i32_58
  let v80 : BitVec 1 := Scalar.xori v78 v79
  let c0_i32_56 : BitVec 32 := 0#32
  let v77 : BitVec 1 := Scalar.cmpi .ne v76 c0_i32_56
  let v81 : BitVec 1 := Scalar.andi v80 v77
  let v82 : BitVec 32 := Scalar.addi v76 v75
  let v83 : BitVec 32 := Scalar.select v81 v82 v76
  let c1_i32_64 : BitVec 32 := 1#32
  let v88 : BitVec 32 := Scalar.muli v83 c1_i32_64
  let v89 : BitVec 32 := Scalar.addi v87 v88
  v89.toNat
def k0_dev5 (d0 : Dev nD) : Nat :=
  let c0_i32_76 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_75 : BitVec 32 := 8#32
  let v98 : BitVec 32 := Scalar.muli v2 c8_i32_75
  let v99 : BitVec 32 := Scalar.addi c0_i32_76 v98
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_77 : BitVec 32 := 4#32
  let v100 : BitVec 32 := Scalar.muli v5 c4_i32_77
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v73 : BitVec 32 := Scalar.addi v8 c1_i32_52
  let c4_i32_53 : BitVec 32 := 4#32
  let c0_i32_54 : BitVec 32 := 0#32
  let v74 : BitVec 1 := Scalar.cmpi .eq c4_i32_53 c0_i32_54
  let c1_i32_55 : BitVec 32 := 1#32
  let v75 : BitVec 32 := Scalar.select v74 c1_i32_55 c4_i32_53
  let v76 : BitVec 32 := Scalar.remsi v73 v75
  let c0_i32_57 : BitVec 32 := 0#32
  let v78 : BitVec 1 := Scalar.cmpi .slt v76 c0_i32_57
  let c0_i32_58 : BitVec 32 := 0#32
  let v79 : BitVec 1 := Scalar.cmpi .slt v75 c0_i32_58
  let v80 : BitVec 1 := Scalar.xori v78 v79
  let c0_i32_56 : BitVec 32 := 0#32
  let v77 : BitVec 1 := Scalar.cmpi .ne v76 c0_i32_56
  let v81 : BitVec 1 := Scalar.andi v80 v77
  let v82 : BitVec 32 := Scalar.addi v76 v75
  let v83 : BitVec 32 := Scalar.select v81 v82 v76
  let c1_i32_78 : BitVec 32 := 1#32
  let v102 : BitVec 32 := Scalar.muli v83 c1_i32_78
  let v103 : BitVec 32 := Scalar.addi v101 v102
  v103.toNat
def k0_dev6 (d0 : Dev nD) : Nat :=
  let c0_i32_97 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_96 : BitVec 32 := 8#32
  let v123 : BitVec 32 := Scalar.muli v2 c8_i32_96
  let v124 : BitVec 32 := Scalar.addi c0_i32_97 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_98 : BitVec 32 := 4#32
  let v125 : BitVec 32 := Scalar.muli v5 c4_i32_98
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v112 : BitVec 32 := Scalar.addi v8 c2_i32_87
  let c4_i32_88 : BitVec 32 := 4#32
  let c0_i32_89 : BitVec 32 := 0#32
  let v113 : BitVec 1 := Scalar.cmpi .eq c4_i32_88 c0_i32_89
  let c1_i32_90 : BitVec 32 := 1#32
  let v114 : BitVec 32 := Scalar.select v113 c1_i32_90 c4_i32_88
  let v115 : BitVec 32 := Scalar.remsi v112 v114
  let c0_i32_92 : BitVec 32 := 0#32
  let v117 : BitVec 1 := Scalar.cmpi .slt v115 c0_i32_92
  let c0_i32_93 : BitVec 32 := 0#32
  let v118 : BitVec 1 := Scalar.cmpi .slt v114 c0_i32_93
  let v119 : BitVec 1 := Scalar.xori v117 v118
  let c0_i32_91 : BitVec 32 := 0#32
  let v116 : BitVec 1 := Scalar.cmpi .ne v115 c0_i32_91
  let v120 : BitVec 1 := Scalar.andi v119 v116
  let v121 : BitVec 32 := Scalar.addi v115 v114
  let v122 : BitVec 32 := Scalar.select v120 v121 v115
  let c1_i32_99 : BitVec 32 := 1#32
  let v127 : BitVec 32 := Scalar.muli v122 c1_i32_99
  let v128 : BitVec 32 := Scalar.addi v126 v127
  v128.toNat
def k0_dev7 (d0 : Dev nD) : Nat :=
  let c0_i32_111 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_110 : BitVec 32 := 8#32
  let v137 : BitVec 32 := Scalar.muli v2 c8_i32_110
  let v138 : BitVec 32 := Scalar.addi c0_i32_111 v137
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_112 : BitVec 32 := 4#32
  let v139 : BitVec 32 := Scalar.muli v5 c4_i32_112
  let v140 : BitVec 32 := Scalar.addi v138 v139
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_87 : BitVec 32 := 2#32
  let v112 : BitVec 32 := Scalar.addi v8 c2_i32_87
  let c4_i32_88 : BitVec 32 := 4#32
  let c0_i32_89 : BitVec 32 := 0#32
  let v113 : BitVec 1 := Scalar.cmpi .eq c4_i32_88 c0_i32_89
  let c1_i32_90 : BitVec 32 := 1#32
  let v114 : BitVec 32 := Scalar.select v113 c1_i32_90 c4_i32_88
  let v115 : BitVec 32 := Scalar.remsi v112 v114
  let c0_i32_92 : BitVec 32 := 0#32
  let v117 : BitVec 1 := Scalar.cmpi .slt v115 c0_i32_92
  let c0_i32_93 : BitVec 32 := 0#32
  let v118 : BitVec 1 := Scalar.cmpi .slt v114 c0_i32_93
  let v119 : BitVec 1 := Scalar.xori v117 v118
  let c0_i32_91 : BitVec 32 := 0#32
  let v116 : BitVec 1 := Scalar.cmpi .ne v115 c0_i32_91
  let v120 : BitVec 1 := Scalar.andi v119 v116
  let v121 : BitVec 32 := Scalar.addi v115 v114
  let v122 : BitVec 32 := Scalar.select v120 v121 v115
  let c1_i32_113 : BitVec 32 := 1#32
  let v141 : BitVec 32 := Scalar.muli v122 c1_i32_113
  let v142 : BitVec 32 := Scalar.addi v140 v141
  v142.toNat
def k0_dev8 (d0 : Dev nD) : Nat :=
  let c0_i32_132 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_131 : BitVec 32 := 8#32
  let v162 : BitVec 32 := Scalar.muli v2 c8_i32_131
  let v163 : BitVec 32 := Scalar.addi c0_i32_132 v162
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v164 : BitVec 32 := Scalar.muli v5 c4_i32_133
  let v165 : BitVec 32 := Scalar.addi v163 v164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_122 : BitVec 32 := 3#32
  let v151 : BitVec 32 := Scalar.addi v8 c3_i32_122
  let c4_i32_123 : BitVec 32 := 4#32
  let c0_i32_124 : BitVec 32 := 0#32
  let v152 : BitVec 1 := Scalar.cmpi .eq c4_i32_123 c0_i32_124
  let c1_i32_125 : BitVec 32 := 1#32
  let v153 : BitVec 32 := Scalar.select v152 c1_i32_125 c4_i32_123
  let v154 : BitVec 32 := Scalar.remsi v151 v153
  let c0_i32_127 : BitVec 32 := 0#32
  let v156 : BitVec 1 := Scalar.cmpi .slt v154 c0_i32_127
  let c0_i32_128 : BitVec 32 := 0#32
  let v157 : BitVec 1 := Scalar.cmpi .slt v153 c0_i32_128
  let v158 : BitVec 1 := Scalar.xori v156 v157
  let c0_i32_126 : BitVec 32 := 0#32
  let v155 : BitVec 1 := Scalar.cmpi .ne v154 c0_i32_126
  let v159 : BitVec 1 := Scalar.andi v158 v155
  let v160 : BitVec 32 := Scalar.addi v154 v153
  let v161 : BitVec 32 := Scalar.select v159 v160 v154
  let c1_i32_134 : BitVec 32 := 1#32
  let v166 : BitVec 32 := Scalar.muli v161 c1_i32_134
  let v167 : BitVec 32 := Scalar.addi v165 v166
  v167.toNat
def k0_dev9 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v176 : BitVec 32 := Scalar.muli v2 c8_i32_145
  let v177 : BitVec 32 := Scalar.addi c0_i32_146 v176
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v178 : BitVec 32 := Scalar.muli v5 c4_i32_147
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_122 : BitVec 32 := 3#32
  let v151 : BitVec 32 := Scalar.addi v8 c3_i32_122
  let c4_i32_123 : BitVec 32 := 4#32
  let c0_i32_124 : BitVec 32 := 0#32
  let v152 : BitVec 1 := Scalar.cmpi .eq c4_i32_123 c0_i32_124
  let c1_i32_125 : BitVec 32 := 1#32
  let v153 : BitVec 32 := Scalar.select v152 c1_i32_125 c4_i32_123
  let v154 : BitVec 32 := Scalar.remsi v151 v153
  let c0_i32_127 : BitVec 32 := 0#32
  let v156 : BitVec 1 := Scalar.cmpi .slt v154 c0_i32_127
  let c0_i32_128 : BitVec 32 := 0#32
  let v157 : BitVec 1 := Scalar.cmpi .slt v153 c0_i32_128
  let v158 : BitVec 1 := Scalar.xori v156 v157
  let c0_i32_126 : BitVec 32 := 0#32
  let v155 : BitVec 1 := Scalar.cmpi .ne v154 c0_i32_126
  let v159 : BitVec 1 := Scalar.andi v158 v155
  let v160 : BitVec 32 := Scalar.addi v154 v153
  let v161 : BitVec 32 := Scalar.select v159 v160 v154
  let c1_i32_148 : BitVec 32 := 1#32
  let v180 : BitVec 32 := Scalar.muli v161 c1_i32_148
  let v181 : BitVec 32 := Scalar.addi v179 v180
  v181.toNat
@[reducible] def k0_t1_loop : Scf.Loop 32 :=
  let c0_i32_307 : BitVec 32 := 0#32
  let c8_i32_308 : BitVec 32 := 8#32
  let v298 : BitVec 32 := Scalar.addi c0_i32_307 c8_i32_308
  let c1_i32_309 : BitVec 32 := 1#32
  ⟨c0_i32_307, v298, c1_i32_309⟩
def k0_off3 (k0_t1 : Fin k0_t1_loop.trips) : Fin 4 → Nat :=
  let c0_i32_307 : BitVec 32 := 0#32
  let c1_i32_309 : BitVec 32 := 1#32
  let arg10 : BitVec 32 := Scf.iv c0_i32_307 c1_i32_309 k0_t1
  let c0_i32_312 : BitVec 32 := 0#32
  let v300 : BitVec 1 := Scalar.cmpi .sgt arg10 c0_i32_312
  let v301 : BitVec 32 := Scalar.extui v300
  let c0_i32_313 : BitVec 32 := 0#32
  let v302 : BitVec 1 := Scalar.cmpi .slt arg10 c0_i32_313
  let v303 : BitVec 32 := Scalar.extui v302
  let v304 : BitVec 32 := Scalar.subi v301 v303
  let c4_i32_311 : BitVec 32 := 4#32
  let c0_i32_314 : BitVec 32 := 0#32
  let v305 : BitVec 1 := Scalar.cmpi .sgt c4_i32_311 c0_i32_314
  let v306 : BitVec 32 := Scalar.extui v305
  let c0_i32_315 : BitVec 32 := 0#32
  let v307 : BitVec 1 := Scalar.cmpi .slt c4_i32_311 c0_i32_315
  let v308 : BitVec 32 := Scalar.extui v307
  let v309 : BitVec 32 := Scalar.subi v306 v308
  let v310 : BitVec 1 := Scalar.cmpi .ne v304 v309
  let v311 : BitVec 32 := Scalar.remsi arg10 c4_i32_311
  let c0_i32_316 : BitVec 32 := 0#32
  let v312 : BitVec 1 := Scalar.cmpi .ne v311 c0_i32_316
  let v313 : BitVec 1 := Scalar.andi v310 v312
  let v299 : BitVec 32 := Scalar.divsi arg10 c4_i32_311
  let c1_i32_317 : BitVec 32 := 1#32
  let v314 : BitVec 32 := Scalar.subi v299 c1_i32_317
  let v315 : BitVec 32 := Scalar.select v313 v314 v299
  let v326 : Index := Scalar.indexCast v315
  let c4_i32_318 : BitVec 32 := 4#32
  let c0_i32_319 : BitVec 32 := 0#32
  let v316 : BitVec 1 := Scalar.cmpi .eq c4_i32_318 c0_i32_319
  let c1_i32_320 : BitVec 32 := 1#32
  let v317 : BitVec 32 := Scalar.select v316 c1_i32_320 c4_i32_318
  let v318 : BitVec 32 := Scalar.remsi arg10 v317
  let c0_i32_322 : BitVec 32 := 0#32
  let v320 : BitVec 1 := Scalar.cmpi .slt v318 c0_i32_322
  let c0_i32_323 : BitVec 32 := 0#32
  let v321 : BitVec 1 := Scalar.cmpi .slt v317 c0_i32_323
  let v322 : BitVec 1 := Scalar.xori v320 v321
  let c0_i32_321 : BitVec 32 := 0#32
  let v319 : BitVec 1 := Scalar.cmpi .ne v318 c0_i32_321
  let v323 : BitVec 1 := Scalar.andi v322 v319
  let v324 : BitVec 32 := Scalar.addi v318 v317
  let v325 : BitVec 32 := Scalar.select v323 v324 v318
  let v327 : Index := Scalar.indexCast v325
  let c0_324 : Index := 0#32
  let c0_325 : Index := 0#32
  ![v326.toNat, v327.toNat, 0, 0]
def k0_off4 (k0_t1 : Fin k0_t1_loop.trips) : Fin 5 → Nat :=
  let c0_326 : Index := 0#32
  let c0_i32_307 : BitVec 32 := 0#32
  let c1_i32_309 : BitVec 32 := 1#32
  let arg10 : BitVec 32 := Scf.iv c0_i32_307 c1_i32_309 k0_t1
  let c0_i32_312 : BitVec 32 := 0#32
  let v300 : BitVec 1 := Scalar.cmpi .sgt arg10 c0_i32_312
  let v301 : BitVec 32 := Scalar.extui v300
  let c0_i32_313 : BitVec 32 := 0#32
  let v302 : BitVec 1 := Scalar.cmpi .slt arg10 c0_i32_313
  let v303 : BitVec 32 := Scalar.extui v302
  let v304 : BitVec 32 := Scalar.subi v301 v303
  let c4_i32_311 : BitVec 32 := 4#32
  let c0_i32_314 : BitVec 32 := 0#32
  let v305 : BitVec 1 := Scalar.cmpi .sgt c4_i32_311 c0_i32_314
  let v306 : BitVec 32 := Scalar.extui v305
  let c0_i32_315 : BitVec 32 := 0#32
  let v307 : BitVec 1 := Scalar.cmpi .slt c4_i32_311 c0_i32_315
  let v308 : BitVec 32 := Scalar.extui v307
  let v309 : BitVec 32 := Scalar.subi v306 v308
  let v310 : BitVec 1 := Scalar.cmpi .ne v304 v309
  let v311 : BitVec 32 := Scalar.remsi arg10 c4_i32_311
  let c0_i32_316 : BitVec 32 := 0#32
  let v312 : BitVec 1 := Scalar.cmpi .ne v311 c0_i32_316
  let v313 : BitVec 1 := Scalar.andi v310 v312
  let v299 : BitVec 32 := Scalar.divsi arg10 c4_i32_311
  let c1_i32_317 : BitVec 32 := 1#32
  let v314 : BitVec 32 := Scalar.subi v299 c1_i32_317
  let v315 : BitVec 32 := Scalar.select v313 v314 v299
  let v330 : Index := Scalar.indexCast v315
  let c4_i32_318 : BitVec 32 := 4#32
  let c0_i32_319 : BitVec 32 := 0#32
  let v316 : BitVec 1 := Scalar.cmpi .eq c4_i32_318 c0_i32_319
  let c1_i32_320 : BitVec 32 := 1#32
  let v317 : BitVec 32 := Scalar.select v316 c1_i32_320 c4_i32_318
  let v318 : BitVec 32 := Scalar.remsi arg10 v317
  let c0_i32_322 : BitVec 32 := 0#32
  let v320 : BitVec 1 := Scalar.cmpi .slt v318 c0_i32_322
  let c0_i32_323 : BitVec 32 := 0#32
  let v321 : BitVec 1 := Scalar.cmpi .slt v317 c0_i32_323
  let v322 : BitVec 1 := Scalar.xori v320 v321
  let c0_i32_321 : BitVec 32 := 0#32
  let v319 : BitVec 1 := Scalar.cmpi .ne v318 c0_i32_321
  let v323 : BitVec 1 := Scalar.andi v322 v319
  let v324 : BitVec 32 := Scalar.addi v318 v317
  let v325 : BitVec 32 := Scalar.select v323 v324 v318
  let v331 : Index := Scalar.indexCast v325
  let c0_327 : Index := 0#32
  let c0_328 : Index := 0#32
  ![0, v330.toNat, v331.toNat, 0, 0]
def k0_off5 (k0_t1 : Fin k0_t1_loop.trips) : Fin 5 → Nat :=
  let c1 : Index := 1#32
  let c0_i32_307 : BitVec 32 := 0#32
  let c1_i32_309 : BitVec 32 := 1#32
  let arg10 : BitVec 32 := Scf.iv c0_i32_307 c1_i32_309 k0_t1
  let c0_i32_312 : BitVec 32 := 0#32
  let v300 : BitVec 1 := Scalar.cmpi .sgt arg10 c0_i32_312
  let v301 : BitVec 32 := Scalar.extui v300
  let c0_i32_313 : BitVec 32 := 0#32
  let v302 : BitVec 1 := Scalar.cmpi .slt arg10 c0_i32_313
  let v303 : BitVec 32 := Scalar.extui v302
  let v304 : BitVec 32 := Scalar.subi v301 v303
  let c4_i32_311 : BitVec 32 := 4#32
  let c0_i32_314 : BitVec 32 := 0#32
  let v305 : BitVec 1 := Scalar.cmpi .sgt c4_i32_311 c0_i32_314
  let v306 : BitVec 32 := Scalar.extui v305
  let c0_i32_315 : BitVec 32 := 0#32
  let v307 : BitVec 1 := Scalar.cmpi .slt c4_i32_311 c0_i32_315
  let v308 : BitVec 32 := Scalar.extui v307
  let v309 : BitVec 32 := Scalar.subi v306 v308
  let v310 : BitVec 1 := Scalar.cmpi .ne v304 v309
  let v311 : BitVec 32 := Scalar.remsi arg10 c4_i32_311
  let c0_i32_316 : BitVec 32 := 0#32
  let v312 : BitVec 1 := Scalar.cmpi .ne v311 c0_i32_316
  let v313 : BitVec 1 := Scalar.andi v310 v312
  let v299 : BitVec 32 := Scalar.divsi arg10 c4_i32_311
  let c1_i32_317 : BitVec 32 := 1#32
  let v314 : BitVec 32 := Scalar.subi v299 c1_i32_317
  let v315 : BitVec 32 := Scalar.select v313 v314 v299
  let v334 : Index := Scalar.indexCast v315
  let c4_i32_318 : BitVec 32 := 4#32
  let c0_i32_319 : BitVec 32 := 0#32
  let v316 : BitVec 1 := Scalar.cmpi .eq c4_i32_318 c0_i32_319
  let c1_i32_320 : BitVec 32 := 1#32
  let v317 : BitVec 32 := Scalar.select v316 c1_i32_320 c4_i32_318
  let v318 : BitVec 32 := Scalar.remsi arg10 v317
  let c0_i32_322 : BitVec 32 := 0#32
  let v320 : BitVec 1 := Scalar.cmpi .slt v318 c0_i32_322
  let c0_i32_323 : BitVec 32 := 0#32
  let v321 : BitVec 1 := Scalar.cmpi .slt v317 c0_i32_323
  let v322 : BitVec 1 := Scalar.xori v320 v321
  let c0_i32_321 : BitVec 32 := 0#32
  let v319 : BitVec 1 := Scalar.cmpi .ne v318 c0_i32_321
  let v323 : BitVec 1 := Scalar.andi v322 v319
  let v324 : BitVec 32 := Scalar.addi v318 v317
  let v325 : BitVec 32 := Scalar.select v323 v324 v318
  let v335 : Index := Scalar.indexCast v325
  let c0_329 : Index := 0#32
  let c0_330 : Index := 0#32
  ![1, v334.toNat, v335.toNat, 0, 0]
def k0_off6 (k0_t1 : Fin k0_t1_loop.trips) : Fin 5 → Nat :=
  let c2 : Index := 2#32
  let c0_i32_307 : BitVec 32 := 0#32
  let c1_i32_309 : BitVec 32 := 1#32
  let arg10 : BitVec 32 := Scf.iv c0_i32_307 c1_i32_309 k0_t1
  let c0_i32_312 : BitVec 32 := 0#32
  let v300 : BitVec 1 := Scalar.cmpi .sgt arg10 c0_i32_312
  let v301 : BitVec 32 := Scalar.extui v300
  let c0_i32_313 : BitVec 32 := 0#32
  let v302 : BitVec 1 := Scalar.cmpi .slt arg10 c0_i32_313
  let v303 : BitVec 32 := Scalar.extui v302
  let v304 : BitVec 32 := Scalar.subi v301 v303
  let c4_i32_311 : BitVec 32 := 4#32
  let c0_i32_314 : BitVec 32 := 0#32
  let v305 : BitVec 1 := Scalar.cmpi .sgt c4_i32_311 c0_i32_314
  let v306 : BitVec 32 := Scalar.extui v305
  let c0_i32_315 : BitVec 32 := 0#32
  let v307 : BitVec 1 := Scalar.cmpi .slt c4_i32_311 c0_i32_315
  let v308 : BitVec 32 := Scalar.extui v307
  let v309 : BitVec 32 := Scalar.subi v306 v308
  let v310 : BitVec 1 := Scalar.cmpi .ne v304 v309
  let v311 : BitVec 32 := Scalar.remsi arg10 c4_i32_311
  let c0_i32_316 : BitVec 32 := 0#32
  let v312 : BitVec 1 := Scalar.cmpi .ne v311 c0_i32_316
  let v313 : BitVec 1 := Scalar.andi v310 v312
  let v299 : BitVec 32 := Scalar.divsi arg10 c4_i32_311
  let c1_i32_317 : BitVec 32 := 1#32
  let v314 : BitVec 32 := Scalar.subi v299 c1_i32_317
  let v315 : BitVec 32 := Scalar.select v313 v314 v299
  let v338 : Index := Scalar.indexCast v315
  let c4_i32_318 : BitVec 32 := 4#32
  let c0_i32_319 : BitVec 32 := 0#32
  let v316 : BitVec 1 := Scalar.cmpi .eq c4_i32_318 c0_i32_319
  let c1_i32_320 : BitVec 32 := 1#32
  let v317 : BitVec 32 := Scalar.select v316 c1_i32_320 c4_i32_318
  let v318 : BitVec 32 := Scalar.remsi arg10 v317
  let c0_i32_322 : BitVec 32 := 0#32
  let v320 : BitVec 1 := Scalar.cmpi .slt v318 c0_i32_322
  let c0_i32_323 : BitVec 32 := 0#32
  let v321 : BitVec 1 := Scalar.cmpi .slt v317 c0_i32_323
  let v322 : BitVec 1 := Scalar.xori v320 v321
  let c0_i32_321 : BitVec 32 := 0#32
  let v319 : BitVec 1 := Scalar.cmpi .ne v318 c0_i32_321
  let v323 : BitVec 1 := Scalar.andi v322 v319
  let v324 : BitVec 32 := Scalar.addi v318 v317
  let v325 : BitVec 32 := Scalar.select v323 v324 v318
  let v339 : Index := Scalar.indexCast v325
  let c0_331 : Index := 0#32
  let c0_332 : Index := 0#32
  ![2, v338.toNat, v339.toNat, 0, 0]
def k0_off7 (k0_t1 : Fin k0_t1_loop.trips) : Fin 5 → Nat :=
  let c3 : Index := 3#32
  let c0_i32_307 : BitVec 32 := 0#32
  let c1_i32_309 : BitVec 32 := 1#32
  let arg10 : BitVec 32 := Scf.iv c0_i32_307 c1_i32_309 k0_t1
  let c0_i32_312 : BitVec 32 := 0#32
  let v300 : BitVec 1 := Scalar.cmpi .sgt arg10 c0_i32_312
  let v301 : BitVec 32 := Scalar.extui v300
  let c0_i32_313 : BitVec 32 := 0#32
  let v302 : BitVec 1 := Scalar.cmpi .slt arg10 c0_i32_313
  let v303 : BitVec 32 := Scalar.extui v302
  let v304 : BitVec 32 := Scalar.subi v301 v303
  let c4_i32_311 : BitVec 32 := 4#32
  let c0_i32_314 : BitVec 32 := 0#32
  let v305 : BitVec 1 := Scalar.cmpi .sgt c4_i32_311 c0_i32_314
  let v306 : BitVec 32 := Scalar.extui v305
  let c0_i32_315 : BitVec 32 := 0#32
  let v307 : BitVec 1 := Scalar.cmpi .slt c4_i32_311 c0_i32_315
  let v308 : BitVec 32 := Scalar.extui v307
  let v309 : BitVec 32 := Scalar.subi v306 v308
  let v310 : BitVec 1 := Scalar.cmpi .ne v304 v309
  let v311 : BitVec 32 := Scalar.remsi arg10 c4_i32_311
  let c0_i32_316 : BitVec 32 := 0#32
  let v312 : BitVec 1 := Scalar.cmpi .ne v311 c0_i32_316
  let v313 : BitVec 1 := Scalar.andi v310 v312
  let v299 : BitVec 32 := Scalar.divsi arg10 c4_i32_311
  let c1_i32_317 : BitVec 32 := 1#32
  let v314 : BitVec 32 := Scalar.subi v299 c1_i32_317
  let v315 : BitVec 32 := Scalar.select v313 v314 v299
  let v342 : Index := Scalar.indexCast v315
  let c4_i32_318 : BitVec 32 := 4#32
  let c0_i32_319 : BitVec 32 := 0#32
  let v316 : BitVec 1 := Scalar.cmpi .eq c4_i32_318 c0_i32_319
  let c1_i32_320 : BitVec 32 := 1#32
  let v317 : BitVec 32 := Scalar.select v316 c1_i32_320 c4_i32_318
  let v318 : BitVec 32 := Scalar.remsi arg10 v317
  let c0_i32_322 : BitVec 32 := 0#32
  let v320 : BitVec 1 := Scalar.cmpi .slt v318 c0_i32_322
  let c0_i32_323 : BitVec 32 := 0#32
  let v321 : BitVec 1 := Scalar.cmpi .slt v317 c0_i32_323
  let v322 : BitVec 1 := Scalar.xori v320 v321
  let c0_i32_321 : BitVec 32 := 0#32
  let v319 : BitVec 1 := Scalar.cmpi .ne v318 c0_i32_321
  let v323 : BitVec 1 := Scalar.andi v322 v319
  let v324 : BitVec 32 := Scalar.addi v318 v317
  let v325 : BitVec 32 := Scalar.select v323 v324 v318
  let v343 : Index := Scalar.indexCast v325
  let c0_333 : Index := 0#32
  let c0_334 : Index := 0#32
  ![3, v342.toNat, v343.toNat, 0, 0]
def k0_dev10 (d0 : Dev nD) : Nat :=
  let c0_i32_320_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_319_r0 : BitVec 32 := 8#32
  let v311_r0 : BitVec 32 := Scalar.muli v2 c8_i32_319_r0
  let v312_r0 : BitVec 32 := Scalar.addi c0_i32_320_r0 v311_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_321_r0 : BitVec 32 := 4#32
  let v313_r0 : BitVec 32 := Scalar.muli v5 c4_i32_321_r0
  let v314_r0 : BitVec 32 := Scalar.addi v312_r0 v313_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311_r0 : BitVec 32 := 1#32
  let v300_r0 : BitVec 32 := Scalar.addi v8 c1_i32_311_r0
  let c4_i32_312_r0 : BitVec 32 := 4#32
  let c0_i32_313_r0 : BitVec 32 := 0#32
  let v301_r0 : BitVec 1 := Scalar.cmpi .eq c4_i32_312_r0 c0_i32_313_r0
  let c1_i32_314_r0 : BitVec 32 := 1#32
  let v302_r0 : BitVec 32 := Scalar.select v301_r0 c1_i32_314_r0 c4_i32_312_r0
  let v303_r0 : BitVec 32 := Scalar.remsi v300_r0 v302_r0
  let c0_i32_316_r0 : BitVec 32 := 0#32
  let v305_r0 : BitVec 1 := Scalar.cmpi .slt v303_r0 c0_i32_316_r0
  let c0_i32_317_r0 : BitVec 32 := 0#32
  let v306_r0 : BitVec 1 := Scalar.cmpi .slt v302_r0 c0_i32_317_r0
  let v307_r0 : BitVec 1 := Scalar.xori v305_r0 v306_r0
  let c0_i32_315_r0 : BitVec 32 := 0#32
  let v304_r0 : BitVec 1 := Scalar.cmpi .ne v303_r0 c0_i32_315_r0
  let v308_r0 : BitVec 1 := Scalar.andi v307_r0 v304_r0
  let v309_r0 : BitVec 32 := Scalar.addi v303_r0 v302_r0
  let v310_r0 : BitVec 32 := Scalar.select v308_r0 v309_r0 v303_r0
  let c1_i32_322_r0 : BitVec 32 := 1#32
  let v315_r0 : BitVec 32 := Scalar.muli v310_r0 c1_i32_322_r0
  let v316_r0 : BitVec 32 := Scalar.addi v314_r0 v315_r0
  v316_r0.toNat
def k0_dev11 (d0 : Dev nD) : Nat :=
  let c0_i32_332_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_331_r0 : BitVec 32 := 8#32
  let v328_r0 : BitVec 32 := Scalar.muli v2 c8_i32_331_r0
  let v329_r0 : BitVec 32 := Scalar.addi c0_i32_332_r0 v328_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_333_r0 : BitVec 32 := 4#32
  let v330_r0 : BitVec 32 := Scalar.muli v5 c4_i32_333_r0
  let v331_r0 : BitVec 32 := Scalar.addi v329_r0 v330_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_323_r0 : BitVec 32 := 2#32
  let v317_r0 : BitVec 32 := Scalar.addi v8 c2_i32_323_r0
  let c4_i32_324_r0 : BitVec 32 := 4#32
  let c0_i32_325_r0 : BitVec 32 := 0#32
  let v318_r0 : BitVec 1 := Scalar.cmpi .eq c4_i32_324_r0 c0_i32_325_r0
  let c1_i32_326_r0 : BitVec 32 := 1#32
  let v319_r0 : BitVec 32 := Scalar.select v318_r0 c1_i32_326_r0 c4_i32_324_r0
  let v320_r0 : BitVec 32 := Scalar.remsi v317_r0 v319_r0
  let c0_i32_328_r0 : BitVec 32 := 0#32
  let v322_r0 : BitVec 1 := Scalar.cmpi .slt v320_r0 c0_i32_328_r0
  let c0_i32_329_r0 : BitVec 32 := 0#32
  let v323_r0 : BitVec 1 := Scalar.cmpi .slt v319_r0 c0_i32_329_r0
  let v324_r0 : BitVec 1 := Scalar.xori v322_r0 v323_r0
  let c0_i32_327_r0 : BitVec 32 := 0#32
  let v321_r0 : BitVec 1 := Scalar.cmpi .ne v320_r0 c0_i32_327_r0
  let v325_r0 : BitVec 1 := Scalar.andi v324_r0 v321_r0
  let v326_r0 : BitVec 32 := Scalar.addi v320_r0 v319_r0
  let v327_r0 : BitVec 32 := Scalar.select v325_r0 v326_r0 v320_r0
  let c1_i32_334_r0 : BitVec 32 := 1#32
  let v332_r0 : BitVec 32 := Scalar.muli v327_r0 c1_i32_334_r0
  let v333_r0 : BitVec 32 := Scalar.addi v331_r0 v332_r0
  v333_r0.toNat
def k0_dev12 (d0 : Dev nD) : Nat :=
  let c0_i32_344_r0 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_343_r0 : BitVec 32 := 8#32
  let v345_r0 : BitVec 32 := Scalar.muli v2 c8_i32_343_r0
  let v346_r0 : BitVec 32 := Scalar.addi c0_i32_344_r0 v345_r0
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_345_r0 : BitVec 32 := 4#32
  let v347_r0 : BitVec 32 := Scalar.muli v5 c4_i32_345_r0
  let v348_r0 : BitVec 32 := Scalar.addi v346_r0 v347_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_335_r0 : BitVec 32 := 3#32
  let v334_r0 : BitVec 32 := Scalar.addi v8 c3_i32_335_r0
  let c4_i32_336_r0 : BitVec 32 := 4#32
  let c0_i32_337_r0 : BitVec 32 := 0#32
  let v335_r0 : BitVec 1 := Scalar.cmpi .eq c4_i32_336_r0 c0_i32_337_r0
  let c1_i32_338_r0 : BitVec 32 := 1#32
  let v336_r0 : BitVec 32 := Scalar.select v335_r0 c1_i32_338_r0 c4_i32_336_r0
  let v337_r0 : BitVec 32 := Scalar.remsi v334_r0 v336_r0
  let c0_i32_340_r0 : BitVec 32 := 0#32
  let v339_r0 : BitVec 1 := Scalar.cmpi .slt v337_r0 c0_i32_340_r0
  let c0_i32_341_r0 : BitVec 32 := 0#32
  let v340_r0 : BitVec 1 := Scalar.cmpi .slt v336_r0 c0_i32_341_r0
  let v341_r0 : BitVec 1 := Scalar.xori v339_r0 v340_r0
  let c0_i32_339_r0 : BitVec 32 := 0#32
  let v338_r0 : BitVec 1 := Scalar.cmpi .ne v337_r0 c0_i32_339_r0
  let v342_r0 : BitVec 1 := Scalar.andi v341_r0 v338_r0
  let v343_r0 : BitVec 32 := Scalar.addi v337_r0 v336_r0
  let v344_r0 : BitVec 32 := Scalar.select v342_r0 v343_r0 v337_r0
  let c1_i32_346_r0 : BitVec 32 := 1#32
  let v349_r0 : BitVec 32 := Scalar.muli v344_r0 c1_i32_346_r0
  let v350_r0 : BitVec 32 := Scalar.addi v348_r0 v349_r0
  v350_r0.toNat
abbrev stage0_0 : Fin 1 → Memref sig .tc .vmem S2x4x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4x512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x4x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 23
  | .vmem => 0
  | .smem => 0
  | _ => 0

abbrev bufTy : (tb : Table) → Fin (tcTables nBuf tb) → BufTy
  | .hbm, ⟨0, _⟩ => ⟨S2x2048x8x64, .bf16⟩
  | .hbm, ⟨1, _⟩ => ⟨S2x2048x8x64, .bf16⟩
  | .hbm, ⟨2, _⟩ => ⟨S2x2048x8x64, .bf16⟩
  | .hbm, ⟨3, _⟩ => ⟨S2x2048x8x64, .f32⟩
  | .hbm, ⟨4, _⟩ => ⟨S2x2048x8x64, .f32⟩
  | .hbm, ⟨5, _⟩ => ⟨S2x2048x8x64, .f32⟩
  | .hbm, ⟨6, _⟩ => ⟨S2x8x2048x2048, .f32⟩
  | .hbm, ⟨7, _⟩ => ⟨S_, .f32⟩
  | .hbm, ⟨8, _⟩ => ⟨S2x8x2048x2048, .f32⟩
  | .hbm, ⟨9, _⟩ => ⟨S2x8x2048x2048, .f32⟩
  | .hbm, ⟨10, _⟩ => ⟨S_, .f32⟩
  | .hbm, ⟨11, _⟩ => ⟨S2x8x2048, .f32⟩
  | .hbm, ⟨12, _⟩ => ⟨S2x8x2048x1, .f32⟩
  | .hbm, ⟨13, _⟩ => ⟨S2x8x2048x2048, .f32⟩
  | .hbm, ⟨14, _⟩ => ⟨S2x8x2048x2048, .f32⟩
  | .hbm, ⟨15, _⟩ => ⟨S2x8x2048x2048, .f32⟩
  | .hbm, ⟨16, _⟩ => ⟨S_, .f32⟩
  | .hbm, ⟨17, _⟩ => ⟨S2x8x2048, .f32⟩
  | .hbm, ⟨18, _⟩ => ⟨S2x8x2048x1, .f32⟩
  | .hbm, ⟨19, _⟩ => ⟨S2x8x2048x2048, .f32⟩
  | .hbm, ⟨20, _⟩ => ⟨S2x8x2048x2048, .f32⟩
  | .hbm, ⟨21, _⟩ => ⟨S2x8x64x2048, .f32⟩
  | .hbm, ⟨22, _⟩ => ⟨S2x2048x8x64, .f32⟩
  | _, _ => ⟨S2x2048x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Common.lean ====
/-
  What the exchange of the packed keys and values is made of: which device a device talks to, the semaphore cells, the
  slots of the two gather buffers, what a full gather buffer holds, and the schedule of every cell.

  The mesh is x=2, y=2, z=4, device c at (c/8, c/4%2, c%4); all talk stays inside a z-group of four devices. On offset
  j + 1 (j = 0, 1, 2) device c talks TO `nxt j c`, and hears FROM `prv j c`.

    cell             waits  is credited by                              amount   the landing hands over
    bar c            c      each prv j c, a signal each, first           1 each   the slots of prv j c's two gather buffers that c
                                                                                 writes, and that prv j c's receive cells for c
                                                                                 and its second barrier cell are open
    send b j c       c      c's own j-th copy of buffer b               N        the share of c's own slot that the copy read
    recv b j c       c      prv j c's j-th copy of buffer b              N        c's slot for prv j c, holding prv j c's block
    bar2 c           c      each prv j c, a signal each, last            1 each   nothing

  Every cell lives one round.
-/
module

public import proofs.«01_k».proof.Proof.Gen.KernelIdeal.Frame
public import Idealize.ShloMosaic.Lib.Pipeline.Regions
public import Idealize.ShloMosaic.Lib.Pipeline.RegionTalk
public import Idealize.ShloMosaic.Lib.Rounds
public import Idealize.ShloMosaic.Lib.Ring
public import Idealize.ShloMosaic.Lib.ValueIdxCore

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy of the rounds library and the exchange's -/

abbrev UX : Type := Rounds.URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb (UX) (MT nD τ sig Unit (Elt F) ℕ UU ℕ) := embR

abbrev 𝒱₀ : Variants := Variants.none

/-! ## Who talks to whom -/

/-- The device `o` places further round the z-group of `c`. -/
def nb (c : Dev nD) (o : ℕ) : Dev nD := ⟨c.val - c.val % 4 + (c.val % 4 + o) % 4, by have := c.isLt; have : nD = 16 := rfl; omega⟩
/-- Where device `c`'s `j`-th messages go. -/
def nxt (j : Fin 3) (c : Dev nD) : Dev nD := nb c (j.val + 1)
/-- Where device `c`'s `j`-th messages come from. -/
def prv (j : Fin 3) (c : Dev nD) : Dev nD := nxt j.rev c

theorem nxt_prv (j : Fin 3) (c : Dev nD) : nxt j (prv j c) = c := by revert j c; decide +kernel
theorem prv_nxt (j : Fin 3) (c : Dev nD) : prv j (nxt j c) = c := by revert j c; decide +kernel
theorem prv_rev (j : Fin 3) (c : Dev nD) : prv j.rev c = nxt j c := by revert j c; decide +kernel
/-- A device's talk on offset `j` as a permutation of the devices. -/
def ring (j : Fin 3) : Dev nD ≃ Dev nD := ⟨nxt j, prv j, prv_nxt j, nxt_prv j⟩

/-- A device's place in its z-group: the slot that holds its block in every gather buffer of the group. -/
def pl (c : Dev nD) : Fin 4 := ⟨c.val % 4, Nat.mod_lt _ (by decide)⟩
theorem pl_nxt (j : Fin 3) (c : Dev nD) : pl (nxt j c) = pl c + j.succ := by revert j c; decide +kernel
/-- The device at place `z` of the z-group of `c`. -/
def at' (c : Dev nD) (z : Fin 4) : Dev nD := ⟨c.val - c.val % 4 + z.val, by have := c.isLt; have := z.isLt; have : nD = 16 := rfl; omega⟩
theorem at_nxt (j : Fin 3) (c : Dev nD) (z : Fin 4) : at' (nxt j c) z = at' c z := by revert j c z; decide +kernel
theorem at_pl (c : Dev nD) : at' c (pl c) = c := by revert c; decide +kernel

/-! ## Semaphores and cells -/

abbrev barS : Sem sig := sig.barrier 0 rfl
abbrev bar2S : Sem sig := cc0_scoped0.sem
/-- The send semaphore of buffer `b` at offset `j`, and the receive semaphore. -/
abbrev sS (b : Fin 2) (j : Fin 3) : DmaSem sig := ⟨4 + 6 * b.val + j.val, by have := b.isLt; have := j.isLt; show _ < 16; omega⟩
abbrev rS (b : Fin 2) (j : Fin 3) : DmaSem sig := ⟨7 + 6 * b.val + j.val, by have := b.isLt; have := j.isLt; show _ < 16; omega⟩

abbrev barC (c : Dev nD) : GSem nD τ sig := ((c : Thread nD τ), .reg barS)
abbrev bar2C (c : Dev nD) : GSem nD τ sig := ((c : Thread nD τ), .reg bar2S)
abbrev sndC (b : Fin 2) (j : Fin 3) (c : Dev nD) : GSem nD τ sig := ((c : Thread nD τ), .dma (sS b j))
abbrev rcvC (b : Fin 2) (j : Fin 3) (c : Dev nD) : GSem nD τ sig := ((c : Thread nD τ), .dma (rS b j))

/-- What a semaphore is for. -/
inductive Use where
  | bar | bar2 | snd (b : Fin 2) (j : Fin 3) | rcv (b : Fin 2) (j : Fin 3) | other
  deriving DecidableEq

def useOf : SemLoc sig → Use
  | .reg s => if s = barS then .bar else if s = bar2S then .bar2 else .other
  | .dma s =>
    if s.val < 4 then .other
    else
      let b : Fin 2 := ⟨(s.val - 4) / 6 % 2, Nat.mod_lt _ (by decide)⟩
      let k := (s.val - 4) % 6
      if k < 3 then .snd b ⟨k % 3, Nat.mod_lt _ (by decide)⟩ else .rcv b ⟨(k - 3) % 3, Nat.mod_lt _ (by decide)⟩

theorem use_bar : useOf (.reg barS) = .bar := by decide
theorem use_bar2 : useOf (.reg bar2S) = .bar2 := by decide
theorem use_snd (b : Fin 2) (j : Fin 3) : useOf (.dma (sS b j)) = .snd b j := by revert b j; decide
theorem use_rcv (b : Fin 2) (j : Fin 3) : useOf (.dma (rS b j)) = .rcv b j := by revert b j; decide

/-! ## The gather buffers and their slots -/

/-- The two gather buffers: the keys' and the values'. -/
def bufM : Fin 2 → Memref sig .tc .vmem S4x2x4x512x128 .bf16
  | 0 => Memref.whole cc0_scratch0
  | 1 => Memref.whole cc0_scratch1

/-- Device `c`'s slot of gather buffer `b` (of any device of its group), as the kernel addresses it. -/
abbrev slotM (b : Fin 2) (c : Dev nD) : Memref sig .tc .vmem S2x4x512x128 .bf16 :=
  ((bufM b).slice (Rect.unit (s := S4x2x4x512x128) (k0_off2 c) S1x2x4x512x128.size (k0_off2_inb c)) (fun _ => rfl)).squeeze S2x4x512x128 squeezes_S1x2x4x512x128_S2x4x512x128

/-- The units of one copy of a slot. -/
abbrev N : ℕ := (slotM 0 0).view.dmaCredit
theorem N_pos : 0 < N := View.dmaCredit_pos _ (by decide)
theorem credit_slot (b : Fin 2) (c : Dev nD) : (slotM b c).view.dmaCredit = N := by
  match b with
  | 0 => rfl
  | 1 => rfl

variable (m : (ℓ : Loc nD τ sig) → Buf (Elt F) ℓ)

/-- The packed block device `c` brings to the exchange: its keys, its values. -/
def blk (b : Fin 2) (c : Dev nD) : FVec F S2x4x512x128 .bf16 :=
  match b with
  | 0 => V m c main_v10
  | 1 => V m c main_v14

/-- What gather buffer `b` of device `c` holds once everything has landed: in slot `z` the block of the group's device at
    place `z`. -/
def gath (b : Fin 2) (c : Dev nD) : BufTy.Contents (Elt F) (bufM b).view.ty :=
  match b with
  | 0 => fun (i : S4x2x4x512x128.Idx) => blk m 0 (at' c (i 0)) (ix4 (i 1) (i 2) (i 3) (i 4))
  | 1 => fun (i : S4x2x4x512x128.Idx) => blk m 1 (at' c (i 0)) (ix4 (i 1) (i 2) (i 3) (i 4))

end Cert.KernelIdeal.Talk

end
-- ==== Proof.Slots.lean ====
/-
  The four slots of a gather buffer: they are disjoint, they make up the buffer, the own block stored through its
  rectangle and a peer's block landed through its slot both leave in the slot what `gath` names.
-/
module

public import proofs.«01_k».proof.Proof.Common
public import proofs.«01_k».proof.Proof.Gen.KernelIdeal.Loops
public import Idealize.ShloMosaic.Lib.Pipeline.Value

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem inb_slot (z : Fin 4) : ∀ a, (![z.val, 0, 0, 0, 0] : Fin 5 → ℕ) a + S1x2x4x512x128.size a ≤ S4x2x4x512x128.size a := by
  revert z; decide

/-- Slot `z` of gather buffer `b`, its offset written out. -/
abbrev slotAt (b : Fin 2) (z : Fin 4) : Memref sig .tc .vmem S2x4x512x128 .bf16 :=
  ((bufM b).slice (Rect.unit (s := S4x2x4x512x128) ![z.val, 0, 0, 0, 0] S1x2x4x512x128.size (inb_slot z)) (fun _ => rfl)).squeeze S2x4x512x128 squeezes_S1x2x4x512x128_S2x4x512x128

/-- A fact of every memref of a slot holds of the kernel's own slot when it holds of `slotAt`. -/
theorem slot_offset {P : Memref sig .tc .vmem S2x4x512x128 .bf16 → Prop} (b : Fin 2) (c : Dev nD) (h : P (slotAt b (pl c))) :
    P (slotM b c) := by
  have e : k0_off2 c = ![(pl c).val, 0, 0, 0, 0] := k0_off2_eq c
  have g : ∀ (o o' : Fin 5 → ℕ) (_ : o' = o) (i i'),
      P (((bufM b).slice (Rect.unit (s := S4x2x4x512x128) o S1x2x4x512x128.size i) (fun _ => rfl)).squeeze S2x4x512x128 squeezes_S1x2x4x512x128_S2x4x512x128)
        → P (((bufM b).slice (Rect.unit (s := S4x2x4x512x128) o' S1x2x4x512x128.size i') (fun _ => rfl)).squeeze S2x4x512x128 squeezes_S1x2x4x512x128_S2x4x512x128) := by
    intro o o' e i i' h; subst e; exact h
  exact g _ _ e _ _ h

theorem slotM_eq (b : Fin 2) (c : Dev nD) : slotM b c = slotAt b (pl c) := slot_offset (P := fun M => M = slotAt b (pl c)) b c rfl

/-- The slot an element lies in. -/
def slotOf (i : S4x2x4x512x128.Idx) : Fin 4 := i 0

/-- The elements of slot `z`. -/
def slotSet (z : Fin 4) : Finset S4x2x4x512x128.Idx := Finset.univ.filter fun i => slotOf i = z

theorem rect_set (z : Fin 4) : (Rect.unit (s := S4x2x4x512x128) ![z.val, 0, 0, 0, 0] S1x2x4x512x128.size (inb_slot z)).set = slotSet z := by
  ext i
  rw [Rect.mem_set_unit, slotSet, Finset.mem_filter]
  constructor
  · intro h
    refine ⟨Finset.mem_univ _, Fin.ext ?_⟩
    have h0 := h 0
    have a : (![z.val, 0, 0, 0, 0] : Fin 5 → ℕ) 0 = z.val := rfl
    have b : S1x2x4x512x128.size 0 = 1 := rfl
    rw [a, b] at h0
    show (i 0).val = z.val
    omega
  · rintro ⟨-, h⟩ a
    have := (i a).isLt
    match a with
    | 0 => exact ⟨by rw [← h]; exact Nat.le_refl _, by rw [← h]; exact Nat.lt_succ_self _⟩
    | 1 => exact ⟨Nat.zero_le _, by simpa using this⟩
    | 2 => exact ⟨Nat.zero_le _, by simpa using this⟩
    | 3 => exact ⟨Nat.zero_le _, by simpa using this⟩
    | 4 => exact ⟨Nat.zero_le _, by simpa using this⟩

theorem set_slotAt0 (z : Fin 4) : (slotAt 0 z).view.set = slotSet z :=
  (View.set_reshape _ _).trans ((View.set_slice_whole _ _).trans (rect_set z))
theorem set_slotAt1 (z : Fin 4) : (slotAt 1 z).view.set = slotSet z :=
  (View.set_reshape _ _).trans ((View.set_slice_whole _ _).trans (rect_set z))

theorem slotSet_disjoint (z z' : Fin 4) (h : z ≠ z') : Disjoint (slotSet z) (slotSet z') := by
  refine Finset.disjoint_left.mpr fun i hi hi' => h ?_
  exact ((Finset.mem_filter (p := fun i : S4x2x4x512x128.Idx => slotOf i = z)).mp hi).2.symm.trans ((Finset.mem_filter (p := fun i : S4x2x4x512x128.Idx => slotOf i = z')).mp hi').2
theorem slotSet_cover : Finset.univ.biUnion slotSet = Finset.univ := by
  refine Finset.eq_univ_iff_forall.mpr fun i => Finset.mem_biUnion.mpr ⟨slotOf i, Finset.mem_univ _, ?_⟩
  exact Finset.mem_filter.mpr ⟨Finset.mem_univ _, rfl⟩

/-! ## A slot held by a device -/

/-- Slot `z` of gather buffer `b` on device `d`, at share `q` and contents `f`. -/
def slot (b : Fin 2) (d : Dev nD) (z : Fin 4) (q : PosShare TreeShare) (f : BufTy.Contents (Elt F) (bufM b).view.ty) : sProp 𝕄 :=
  (slotAt b z).view.loc (d : Thread nD τ) ↦[(slotAt b z).view.set]{q} f

instance slot_storable (b : Fin 2) (d : Dev nD) (z : Fin 4) (q : PosShare TreeShare) (f : BufTy.Contents (Elt F) (bufM b).view.ty) :
    BI.Storable (upEmb : UEmb _ 𝕄) (slot b d z q f) := by unfold slot; infer_instance

/-- The same slot spelt as the kernel addresses it. -/
theorem slot_pl (b : Fin 2) (d c : Dev nD) (q : PosShare TreeShare) (f : BufTy.Contents (Elt F) (bufM b).view.ty) :
    (slot b d (pl c) q f : sProp 𝕄) = ((slotM b c).view.loc (d : Thread nD τ) ↦[(slotM b c).view.set]{q} f) := by
  have e : k0_off2 c = ![(pl c).val, 0, 0, 0, 0] := k0_off2_eq c
  have g : ∀ (o : Fin 5 → ℕ) (_ : o = ![(pl c).val, 0, 0, 0, 0]) (i),
      (slot b d (pl c) q f : sProp 𝕄) = (((((bufM b).slice (Rect.unit (s := S4x2x4x512x128) o S1x2x4x512x128.size i) (fun _ => rfl)).squeeze S2x4x512x128 squeezes_S1x2x4x512x128_S2x4x512x128).view.loc (d : Thread nD τ)) ↦[((((bufM b).slice (Rect.unit (s := S4x2x4x512x128) o S1x2x4x512x128.size i) (fun _ => rfl)).squeeze S2x4x512x128 squeezes_S1x2x4x512x128_S2x4x512x128).view.set)]{q} f) := by
    intro o e i; subst e; rfl
  exact g _ e _

/-- Gather buffer `b` on device `d`, whole. -/
def whole (b : Fin 2) (d : Dev nD) (f : BufTy.Contents (Elt F) (bufM b).view.ty) : sProp 𝕄 :=
  (bufM b).view.loc (d : Thread nD τ) ↦{fullShare} f

theorem whole_slots (b : Fin 2) (d : Dev nD) (f : BufTy.Contents (Elt F) (bufM b).view.ty) :
    (whole b d f : sProp 𝕄) = bigSep Finset.univ fun z => slot b d z fullShare f := by
  unfold whole slot
  match b with
  | 0 =>
    refine (Ring.pointsTo_blocks (ℓ := (bufM 0).view.loc (d : Thread nD τ)) (I := slotSet) slotSet_disjoint slotSet_cover f).trans ?_
    exact bigSep_congr fun z _ => congrArg (fun S => ((bufM 0).view.loc (d : Thread nD τ) ↦[S]{fullShare} f : sProp 𝕄)) (set_slotAt0 z).symm
  | 1 =>
    refine (Ring.pointsTo_blocks (ℓ := (bufM 1).view.loc (d : Thread nD τ)) (I := slotSet) slotSet_disjoint slotSet_cover f).trans ?_
    exact bigSep_congr fun z _ => congrArg (fun S => ((bufM 1).view.loc (d : Thread nD τ) ↦[S]{fullShare} f : sProp 𝕄)) (set_slotAt1 z).symm

/-! ## What a store and a landing leave in a slot -/

theorem gath_nxt (b : Fin 2) (j : Fin 3) (c : Dev nD) : gath m b (nxt j c) = gath m b c := by
  match b with
  | 0 => funext (i : S4x2x4x512x128.Idx); exact congrArg (fun d => blk m 0 d (ix4 (i 1) (i 2) (i 3) (i 4))) (at_nxt j c (i 0))
  | 1 => funext (i : S4x2x4x512x128.Idx); exact congrArg (fun d => blk m 1 d (ix4 (i 1) (i 2) (i 3) (i 4))) (at_nxt j c (i 0))
theorem gath_prv (b : Fin 2) (j : Fin 3) (c : Dev nD) : gath m b (prv j c) = gath m b c := by
  rw [← gath_nxt m b j (prv j c), nxt_prv]

omit [FloatOps F] in
/-- A view's elements written with what another buffer's like elements read are that buffer's elements. -/
theorem write_read {κ} {sp} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem (v := v) _ _ (Finset.mem_univ x), View.read_apply, cast_cast, cast_eq]

omit [FloatOps F] in
/-- A view's elements written with values are a buffer's elements when the values are what it reads. -/
theorem write_values {κ} {sp} {s : Shape} {e : EltTy} (v : View sig κ sp s e) (f g : v.ty.Contents (Elt F)) (w : s.Idx → Elt F e)
    (hw : v.read (Elt F) g = w) : ∀ i ∈ v.set, v.write (Elt F) f w Finset.univ i = g i := by
  subst hw; exact write_read v f g

/-- A copy of device `c`'s slot landed in its slot at the device `j + 1` places on. -/
theorem landed (b : Fin 2) (j : Fin 3) (c d : Dev nD) (hd : d = nxt j c) (fd : BufTy.Contents (Elt F) (bufM b).view.ty) :
    ((slotM b c).view.loc (d : Thread nD τ) ↦[(slotM b c).view.set]{fullShare}
        ((slotM b c).view.write (Elt F) fd ((slotM b c).view.read (Elt F) (gath m b c)) Finset.univ) : sProp 𝕄)
      = slot b d (pl c) fullShare (gath m b d) := by
  subst hd
  rw [slot_pl, gath_nxt]
  exact pointsTo_congr (write_read (slotM b c).view fd (gath m b c))

theorem store_slot (b : Fin 2) (c : Dev nD) (o : Fin 5 → ℕ) (ho : o = ![(pl c).val, 0, 0, 0, 0])
    (inb : ∀ a, o a + S1x2x4x512x128.size a ≤ S4x2x4x512x128.size a)
    (w : S1x2x4x512x128.Idx → Elt F .bf16) (hw : ∀ x, w x = blk m b c (ix4 (x 1) (x 2) (x 3) (x 4)))
    (f : BufTy.Contents (Elt F) (bufM b).view.ty) :
    ((((bufM b).access (Rect.unit (s := S4x2x4x512x128) o S1x2x4x512x128.size inb)).loc (c : Thread nD τ)) ↦[(slotAt b (pl c)).view.set]{fullShare}
        (((bufM b).access (Rect.unit (s := S4x2x4x512x128) o S1x2x4x512x128.size inb)).write (Elt F) f w Finset.univ) : sProp 𝕄)
      = slot b c (pl c) fullShare (gath m b c) := by
  subst ho
  have key : ∀ (x : S1x2x4x512x128.Idx),
      (fun (i : S4x2x4x512x128.Idx) => blk m b (at' c (i 0)) (ix4 (i 1) (i 2) (i 3) (i 4)))
        ((Rect.unit (s := S4x2x4x512x128) ![(pl c).val, 0, 0, 0, 0] S1x2x4x512x128.size inb).emb x) = w x := by
    intro x
    rw [hw]
    show blk m b (at' c _) _ = _
    have h0 : ((Rect.unit (s := S4x2x4x512x128) ![(pl c).val, 0, 0, 0, 0] S1x2x4x512x128.size inb).emb x) 0 = pl c := by
      refine Fin.ext ?_
      have hx : (x 0).val < 1 := (x 0).isLt
      show (pl c).val + 1 * (x 0).val = (pl c).val
      omega
    have h1 : ((Rect.unit (s := S4x2x4x512x128) ![(pl c).val, 0, 0, 0, 0] S1x2x4x512x128.size inb).emb x) 1 = x 1 := Fin.ext (by show 0 + 1 * (x 1).val = _; omega)
    have h2 : ((Rect.unit (s := S4x2x4x512x128) ![(pl c).val, 0, 0, 0, 0] S1x2x4x512x128.size inb).emb x) 2 = x 2 := Fin.ext (by show 0 + 1 * (x 2).val = _; omega)
    have h3 : ((Rect.unit (s := S4x2x4x512x128) ![(pl c).val, 0, 0, 0, 0] S1x2x4x512x128.size inb).emb x) 3 = x 3 := Fin.ext (by show 0 + 1 * (x 3).val = _; omega)
    have h4 : ((Rect.unit (s := S4x2x4x512x128) ![(pl c).val, 0, 0, 0, 0] S1x2x4x512x128.size inb).emb x) 4 = x 4 := Fin.ext (by show 0 + 1 * (x 4).val = _; omega)
    rw [h0, h1, h2, h3, h4, at_pl]
  unfold slot
  refine pointsTo_congr fun i hi => ?_
  match b with
  | 0 =>
    have e : ((Memref.whole cc0_scratch0).access (Rect.unit (s := S4x2x4x512x128) ![(pl c).val, 0, 0, 0, 0] S1x2x4x512x128.size inb)).set = (slotAt 0 (pl c)).view.set :=
      (View.set_slice_whole _ _).trans ((rect_set _).trans (set_slotAt0 _).symm)
    exact write_values ((Memref.whole cc0_scratch0).access (Rect.unit (s := S4x2x4x512x128) ![(pl c).val, 0, 0, 0, 0] S1x2x4x512x128.size inb)) f (gath m 0 c) w (funext key) i ((Finset.ext_iff.mp e i).mpr hi)
  | 1 =>
    have e : ((Memref.whole cc0_scratch1).access (Rect.unit (s := S4x2x4x512x128) ![(pl c).val, 0, 0, 0, 0] S1x2x4x512x128.size inb)).set = (slotAt 1 (pl c)).view.set :=
      (View.set_slice_whole _ _).trans ((rect_set _).trans (set_slotAt1 _).symm)
    exact write_values ((Memref.whole cc0_scratch1).access (Rect.unit (s := S4x2x4x512x128) ![(pl c).val, 0, 0, 0, 0] S1x2x4x512x128.size inb)) f (gath m 1 c) w (funext key) i ((Finset.ext_iff.mp e i).mpr hi)

/-- What the kernel stores into its own slot: the block it brings, cast to the slot's shape. -/
theorem pay_keys (v : FVec F S2x4x512x128 .bf16) (x : S1x2x4x512x128.Idx) :
    k0_pay10 (k0_pay9 v) x = v (ix4 (x 1) (x 2) (x 3) (x 4)) := by
  unfold k0_pay10 k0_pay9
  dsimp only
  rw [shapeCast_self]
  refine (shapeCast_addUnit_apply ![2, 4, 512, 128] v _ x).trans (congrArg v ?_)
  funext a; match a with | 0 => rfl | 1 => rfl | 2 => rfl | 3 => rfl
theorem pay_values (v : FVec F S2x4x512x128 .bf16) (x : S1x2x4x512x128.Idx) :
    k0_pay11 v x = v (ix4 (x 1) (x 2) (x 3) (x 4)) := by
  unfold k0_pay11
  rw [shapeCast_self]
  refine (shapeCast_addUnit_apply ![2, 4, 512, 128] v _ x).trans (congrArg v ?_)
  funext a; match a with | 0 => rfl | 1 => rfl | 2 => rfl | 3 => rfl

/-! ## A slot in thirds -/

/-- The share a copy takes of its source. -/
def third : Fin 3 → PosShare TreeShare
  | 0 => fullShare.left
  | 1 => fullShare.right.left
  | 2 => fullShare.right.right

theorem slot_thirds (b : Fin 2) (d : Dev nD) (z : Fin 4) (f : BufTy.Contents (Elt F) (bufM b).view.ty) :
    (slot b d z fullShare f : sProp 𝕄) ⊢ iprop(slot b d z (third 0) f ∗ slot b d z (third 1) f ∗ slot b d z (third 2) f) := by
  unfold slot third
  iintro H
  ihave H2 := (pointsTo_share (PosShare.mem_left_op_right fullShare)).1 $$ H
  icases H2 with ⟨H0, H1⟩
  ihave H3 := (pointsTo_share (PosShare.mem_left_op_right fullShare.right)).1 $$ H1
  icases H3 with ⟨H1, H2⟩
  isplitl [H0]; · iexact H0
  isplitl [H1]; · iexact H1
  iexact H2

theorem slot_whole (b : Fin 2) (d : Dev nD) (z : Fin 4) (f : BufTy.Contents (Elt F) (bufM b).view.ty) :
    iprop(slot b d z (third 0) f ∗ slot b d z (third 1) f ∗ slot b d z (third 2) f) ⊢ (slot b d z fullShare f : sProp 𝕄) := by
  unfold slot third
  iintro ⟨H0, H1, H2⟩
  iapply (pointsTo_share (PosShare.mem_left_op_right fullShare)).2
  isplitl [H0]; · iexact H0
  iapply (pointsTo_share (PosShare.mem_left_op_right fullShare.right)).2
  isplitl [H1]; · iexact H1
  iexact H2

end Cert.KernelIdeal.Talk

end
-- ==== Proof.Sched.lean ====
/-
  The schedule of the exchange: for each semaphore cell its duties, their amounts and what each hands over; what a device
  owes from the launch on, and the levels that order the waits.
-/
module

public import proofs.«01_k».proof.Proof.Slots

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What each payment hands over -/

/-- What device `p` hands to the device `j + 1` places on by its signal: that device's slots of `p`'s two gather buffers,
    that the copies into them may begin, and that the closing signal to `p` may be given. -/
def lend (p : Dev nD) (j : Fin 3) : sProp 𝕄 :=
  iprop((∃ f, slot 0 p (pl (nxt j p)) fullShare f) ∗ (∃ f, slot 1 p (pl (nxt j p)) fullShare f)
    ∗ reached ER (rcvC 0 j.rev p) 0 ∗ reached ER (rcvC 1 j.rev p) 0 ∗ reached ER (bar2C p) 0)

/-- What a copy leaves with its source: the third of the slot it read. -/
def sent (b : Fin 2) (j : Fin 3) (c : Dev nD) : sProp 𝕄 := slot b c (pl c) (third j) (gath m b c)

/-- What a copy leaves where it lands: the sender's slot, at the sender's block. -/
def recd (b : Fin 2) (j : Fin 3) (d : Dev nD) : sProp 𝕄 := slot b d (pl (prv j d)) fullShare (gath m b d)

def Rd : Rounds.Schedule (GSem nD τ sig) (Fin 3) 𝕄 where
  duties g r := if r = 0 then (match useOf g.2 with | .bar => Finset.univ | .bar2 => Finset.univ | .snd _ _ => {0} | .rcv _ _ => {0} | .other => ∅) else ∅
  unitless _ := False
  amount g _ _ := match useOf g.2 with | .bar => 1 | .bar2 => 1 | .snd _ _ => N | .rcv _ _ => N | .other => 1
  payload g _ d := match useOf g.2 with
    | .bar => lend (prv d g.1.1) d
    | .bar2 => iprop(emp)
    | .snd b j => sent m b j g.1.1
    | .rcv b j => recd m b j g.1.1
    | .other => iprop(emp)
  amount_pos g _ _ _ := by cases useOf g.2 <;> first | exact Nat.one_pos | exact N_pos

instance Rd_storable (g : GSem nD τ sig) (r : ℕ) (d : Fin 3) : BI.Storable (upEmb : UEmb _ 𝕄) ((Rd (F := F) m).payload g r d) := by
  show BI.Storable upEmb (match useOf g.2 with
    | .bar => lend (prv d g.1.1) d
    | .bar2 => iprop(emp)
    | .snd b j => sent m b j g.1.1
    | .rcv b j => recd m b j g.1.1
    | .other => iprop(emp))
  unfold lend sent recd
  cases useOf g.2 <;> infer_instance

section Tables

variable (c : Dev nD) (b : Fin 2) (j : Fin 3)

theorem duties_bar : (Rd (F := F) m).duties (barC c) 0 = Finset.univ := by dsimp only [Rd]; rw [if_pos rfl, use_bar]
theorem duties_bar2 : (Rd (F := F) m).duties (bar2C c) 0 = Finset.univ := by dsimp only [Rd]; rw [if_pos rfl, use_bar2]
theorem duties_snd : (Rd (F := F) m).duties (sndC b j c) 0 = {0} := by dsimp only [Rd]; rw [if_pos rfl, use_snd]
theorem duties_rcv : (Rd (F := F) m).duties (rcvC b j c) 0 = {0} := by dsimp only [Rd]; rw [if_pos rfl, use_rcv]
theorem duties_later (g : GSem nD τ sig) : ∀ r, 1 ≤ r → (Rd (F := F) m).duties g r = ∅ :=
  fun r hr => by dsimp only [Rd]; rw [if_neg (by omega)]

theorem amount_bar (d : Fin 3) : (Rd (F := F) m).amount (barC c) 0 d = 1 := by dsimp only [Rd]; rw [use_bar]
theorem amount_bar2 (d : Fin 3) : (Rd (F := F) m).amount (bar2C c) 0 d = 1 := by dsimp only [Rd]; rw [use_bar2]
theorem amount_snd (d : Fin 3) : (Rd (F := F) m).amount (sndC b j c) 0 d = N := by dsimp only [Rd]; rw [use_snd]
theorem amount_rcv (d : Fin 3) : (Rd (F := F) m).amount (rcvC b j c) 0 d = N := by dsimp only [Rd]; rw [use_rcv]

theorem expect_bar : (Rd (F := F) m).expect (barC c) 0 = 3 := by
  unfold Schedule.expect Schedule.amountOf; rw [duties_bar, Finset.sum_congr rfl fun d _ => amount_bar m c d]; rfl
theorem expect_bar2 : (Rd (F := F) m).expect (bar2C c) 0 = 3 := by
  unfold Schedule.expect Schedule.amountOf; rw [duties_bar2, Finset.sum_congr rfl fun d _ => amount_bar2 m c d]; rfl
theorem expect_snd : (Rd (F := F) m).expect (sndC b j c) 0 = N := by
  unfold Schedule.expect Schedule.amountOf; rw [duties_snd, Finset.sum_singleton, amount_snd]
theorem expect_rcv : (Rd (F := F) m).expect (rcvC b j c) 0 = N := by
  unfold Schedule.expect Schedule.amountOf; rw [duties_rcv, Finset.sum_singleton, amount_rcv]

theorem payload_bar (d : Fin 3) : (Rd (F := F) m).payload (barC c) 0 d = lend (prv d c) d := by dsimp only [Rd]; rw [use_bar]
theorem payload_bar2 (d : Fin 3) : (Rd (F := F) m).payload (bar2C c) 0 d = iprop(emp) := by dsimp only [Rd]; rw [use_bar2]
theorem payload_snd (d : Fin 3) : (Rd (F := F) m).payload (sndC b j c) 0 d = sent m b j c := by dsimp only [Rd]; rw [use_snd]
theorem payload_rcv (d : Fin 3) : (Rd (F := F) m).payload (rcvC b j c) 0 d = recd m b j c := by dsimp only [Rd]; rw [use_rcv]

omit [FloatOps F] in
theorem bigSep_three (P : Fin 3 → sProp 𝕄) : bigSep Finset.univ P = iprop(P 0 ∗ P 1 ∗ P 2) := by
  rw [bigSep_univ_eq_bigSepL [0, 1, 2] (by decide) (by decide)]; rfl

theorem rest_bar : bigSep ((Rd (F := F) m).duties (barC c) 0 \ ∅) (fun d => (Rd (F := F) m).payload (barC c) 0 d)
    = iprop(lend (prv 0 c) 0 ∗ lend (prv 1 c) 1 ∗ lend (prv 2 c) 2) := by
  rw [Finset.sdiff_empty, duties_bar, bigSep_three, payload_bar, payload_bar, payload_bar]
theorem rest_snd : bigSep ((Rd (F := F) m).duties (sndC b j c) 0 \ ∅) (fun d => (Rd (F := F) m).payload (sndC b j c) 0 d) = sent m b j c := by
  rw [Finset.sdiff_empty, duties_snd, bigSep_singleton, payload_snd]
theorem rest_rcv : bigSep ((Rd (F := F) m).duties (rcvC b j c) 0 \ ∅) (fun d => (Rd (F := F) m).payload (rcvC b j c) 0 d) = recd m b j c := by
  rw [Finset.sdiff_empty, duties_rcv, bigSep_singleton, payload_rcv]

end Tables

/-! ## What a device owes; the levels -/

/-- A unit on the barrier of the device `j + 1` places on, on its closing barrier, a copy's landing there. -/
abbrev tBar (j : Fin 3) (c : Dev nD) : CellTallies nD τ sig Unit := tallyAt (barC (nxt j c)) () 1
abbrev tBar2 (j : Fin 3) (c : Dev nD) : CellTallies nD τ sig Unit := tallyAt (bar2C (nxt j c)) () 1
abbrev tRcv (b : Fin 2) (j : Fin 3) (c : Dev nD) : CellTallies nD τ sig Unit := tallyAt (rcvC b j (nxt j c)) () N

/-- Owed once the copies are issued: the closing signals. -/
def oClose (c : Dev nD) : CellTallies nD τ sig Unit := tBar2 2 c + tBar2 1 c + tBar2 0 c
/-- Owed once the opening signals are given: the copies besides. -/
def oCopy (c : Dev nD) : CellTallies nD τ sig Unit :=
  oClose c + tRcv 1 2 c + tRcv 0 2 c + tRcv 1 1 c + tRcv 0 1 c + tRcv 1 0 c + tRcv 0 0 c
/-- Owed from the launch on. -/
def O₀ (c : Dev nD) : CellTallies nD τ sig Unit := oCopy c + tBar 2 c + tBar 1 c + tBar 0 c

def L (g : GSem nD τ sig) : Finset Unit := if g.1.2 = .tc then {()} else ∅
def lv (g : GSem nD τ sig) (_ : Unit) : ℕ := match useOf g.2 with | .bar => 1 | .rcv _ _ => 2 | .bar2 => 3 | _ => 0

theorem L_of_ne (g : GSem nD τ sig) (h : g.1.2 ≠ .tc) : L g = ∅ := if_neg h
theorem L_tc (c : Dev nD) (sm : SemLoc sig) : L ((c : Thread nD τ), sm) = {()} := if_pos rfl

/-- Every cell of a sum of tallies is a TensorCore's and of a level above `n`. -/
def Above (n : ℕ) (O : CellTallies nD τ sig Unit) : Prop := ∀ g u, 0 < O g u → u ∈ L g ∧ n < lv g u

theorem Above.add {n : ℕ} {O O' : CellTallies nD τ sig Unit} (h : Above n O) (h' : Above n O') : Above n (O + O') := by
  intro g u hg
  rw [Pi.add_apply, Finsupp.add_apply, Nat.add_pos_iff_pos_or_pos] at hg
  exact hg.elim (h g u) (h' g u)

theorem Above.tally {n : ℕ} (c : Dev nD) (sm : SemLoc sig) (k : ℕ) (h : n < lv ((c : Thread nD τ), sm) ()) :
    Above n (tallyAt (((c : Thread nD τ), sm) : GSem nD τ sig) () k) := by
  intro g u hg
  rw [tallyAt_apply] at hg
  by_cases e : g = ((c : Thread nD τ), sm) ∧ u = ()
  · rw [e.1, L_tc]; exact ⟨Finset.mem_singleton_self _, h⟩
  · rw [if_neg e] at hg; exact absurd hg (Nat.lt_irrefl 0)

theorem lv_bar (c : Dev nD) : lv (barC c) () = 1 := by dsimp only [lv]; rw [use_bar]
theorem lv_bar2 (c : Dev nD) : lv (bar2C c) () = 3 := by dsimp only [lv]; rw [use_bar2]
theorem lv_rcv (b : Fin 2) (j : Fin 3) (c : Dev nD) : lv (rcvC b j c) () = 2 := by dsimp only [lv]; rw [use_rcv]
theorem lv_snd (b : Fin 2) (j : Fin 3) (c : Dev nD) : lv (sndC b j c) () = 0 := by dsimp only [lv]; rw [use_snd]

theorem above_close {n : ℕ} (h : n < 3) (c : Dev nD) : Above n (oClose c) :=
  ((Above.tally _ _ _ (by rw [lv_bar2]; exact h)).add (Above.tally _ _ _ (by rw [lv_bar2]; exact h))).add
    (Above.tally _ _ _ (by rw [lv_bar2]; exact h))
theorem above_rcv {n : ℕ} (h : n < 2) (b : Fin 2) (j : Fin 3) (c : Dev nD) : Above n (tRcv b j c) :=
  Above.tally _ _ _ (by rw [lv_rcv]; exact h)
theorem above_copy {n : ℕ} (h : n < 2) (c : Dev nD) : Above n (oCopy c) :=
  ((((((above_close (by omega) c).add (above_rcv h 1 2 c)).add (above_rcv h 0 2 c)).add (above_rcv h 1 1 c)).add
    (above_rcv h 0 1 c)).add (above_rcv h 1 0 c)).add (above_rcv h 0 0 c)
theorem above_bar {n : ℕ} (h : n < 1) (j : Fin 3) (c : Dev nD) : Above n (tBar j c) :=
  Above.tally _ _ _ (by rw [lv_bar]; exact h)
theorem above_all (c : Dev nD) : Above 0 (O₀ c) :=
  (((above_copy (by omega) c).add (above_bar (by omega) 2 c)).add (above_bar (by omega) 1 c)).add (above_bar (by omega) 0 c)

/-- A wait on a cell at or below every level owed is allowed. -/
theorem mayWait (n : ℕ) (c : Dev nD) (sm : SemLoc sig) (O : CellTallies nD τ sig Unit) (h : lv ((c : Thread nD τ), sm) () ≤ n)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => (hO g u hg).1)
    (fun p hp => by rw [Finset.mem_singleton.mp hp]; exact h)
    (fun g u hg => (hO g u hg).2)

end Cert.KernelIdeal.Talk

end
-- ==== Proof.Steps.lean ====
/-
  The steps of the exchange, each once: the opening signal and wait, a copy, the waits for its departure and for its
  arrival, the closing signal and wait. A device is `c`, the device a step addresses `d`.
-/
module

public import proofs.«01_k».proof.Proof.Sched

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and what every device may consult -/

/-- The semaphores that are dormant until the kernel begins: the closing barrier's (`none`), a copy's departure's
    (`some (0, b, j)`), its arrival's (`some (1, b, j)`). -/
abbrev Kx : Type := Option (Fin 2 × Fin 2 × Fin 3)
def osem : Kx → SemLoc sig
  | none => .reg bar2S
  | some (0, b, j) => .dma (sS b j)
  | some (1, b, j) => .dma (rS b j)

theorem osem_inj : Function.Injective osem := by decide
theorem osem_ne_bar : ∀ k : Kx, osem k ≠ .reg barS := by decide

def barEmb : Dev nD ↪ GSem nD τ sig := ⟨fun c => barC c, fun _ _ h => congrArg (fun g : GSem nD τ sig => g.1.1) h⟩
def scEmb : Dev nD × Kx ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- Every cell's invariant under one map of names, and that round 0 of every barrier is reached. -/
def records (K : GSem nD τ sig → ℕ) : sProp 𝕄 :=
  iprop((bigSep (barCells ∪ scCells) fun g => cellInv ER (Rd m) (K g) g) ∗ bigSep barCells fun g => reached ER g 0)
instance records_persistent (K : GSem nD τ sig → ℕ) : BI.Persistent (records m K) := by unfold records; infer_instance

/-- The same with the levels and that device `c`'s own dormant cells have been opened. -/
def ctx (K : GSem nD τ sig → ℕ) (c : Dev nD) : sProp 𝕄 :=
  iprop(records m K ∗ levAts L lv ∗ bigSep Finset.univ fun k : Kx => reached ER ((c : Thread nD τ), osem k) 0)
instance ctx_persistent (K : GSem nD τ sig → ℕ) (c : Dev nD) : BI.Persistent (ctx m K c) := by unfold ctx; infer_instance

section Look

variable (K : GSem nD τ sig → ℕ) (c d : Dev nD)

theorem inv_at {g : GSem nD τ sig} (hg : g ∈ (barCells ∪ scCells : Finset (GSem nD τ sig))) :
    (bigSep (barCells ∪ scCells) fun g => (cellInv ER (Rd m) (K g) g : sProp 𝕄)) ⊢ cellInv ER (Rd m) (K g) g :=
  bigSep_elim hg
theorem inv_bar : records m K ⊢ cellInv ER (Rd m) (K (barC d)) (barC d) := by
  unfold records; iintro ⟨H, -⟩
  iapply (inv_at m K (g := barC d) (Finset.mem_union_left _ (Finset.mem_map_of_mem barEmb (Finset.mem_univ d)))); iexact H
theorem inv_sc (k : Kx) : records m K ⊢ cellInv ER (Rd m) (K ((d : Thread nD τ), osem k)) ((d : Thread nD τ), osem k) := by
  unfold records; iintro ⟨H, -⟩
  iapply (inv_at m K (g := ((d : Thread nD τ), osem k)) (Finset.mem_union_right _ (Finset.mem_map_of_mem scEmb (Finset.mem_univ (d, k))))); iexact H
omit [FloatOps F] in
theorem reached_in : (bigSep barCells fun g => (reached ER g 0 : sProp 𝕄)) ⊢ reached ER (barC d) 0 :=
  bigSep_elim (Finset.mem_map_of_mem barEmb (Finset.mem_univ d))
theorem reached_bar : records m K ⊢ reached ER (barC d) 0 := by
  unfold records; iintro ⟨-, H⟩
  iapply (reached_in (F := F) d); iexact H
omit [FloatOps F] in
theorem reached_in' (k : Kx) : (bigSep Finset.univ fun k : Kx => (reached ER ((c : Thread nD τ), osem k) 0 : sProp 𝕄)) ⊢ reached ER ((c : Thread nD τ), osem k) 0 :=
  bigSep_elim (Finset.mem_univ k)
theorem ctx_records : ctx m K c ⊢ records m K := by
  unfold ctx; iintro ⟨H, -⟩; iexact H
theorem ctx_lev : ctx m K c ⊢ levAts L lv := by
  unfold ctx; iintro ⟨-, H, -⟩; iexact H
theorem reached_own (k : Kx) : ctx m K c ⊢ reached ER ((c : Thread nD τ), osem k) 0 := by
  unfold ctx; iintro ⟨-, -, H⟩
  iapply (reached_in' (F := F) c k); iexact H

end Look

/-- Device `c` owes `O`. -/
def owe (c : Dev nD) (O : CellTallies nD τ sig Unit) : sProp 𝕄 := iprop(∃ W, owes (c : Thread nD τ) O W)

/-- Device `c` running `p` may end only as `Q` says. -/
abbrev runs (c : Dev nD) {α : Type} (p : Prog (TpuEff nD τ sig (Elt F) Λ₀ .tc) α) (Q : α → sProp 𝕄) : sProp 𝕄 :=
  wp frame (wpE (defs₀ (F := F)) 𝒱₀ c none) Set.univ p Q

section Steps

/-- The opening signal, to the device `j + 1` places on. -/
theorem step_signal (K : GSem nD τ sig → ℕ) (c d : Dev nD) {α : Type} (k : PUnit → Prog (TpuEff nD τ sig (Elt F) Λ₀ .tc) α) (Q : α → sProp 𝕄) (j : Fin 3) (hd : d = nxt j c) (O : CellTallies nD τ sig Unit) :
    iprop(ctx m K c ∗ owe c (O + tBar j c) ∗ dutyTok ER (barC (nxt j c)) 0 j
        ∗ (∃ f, slot 0 c (pl (nxt j c)) fullShare f) ∗ (∃ f, slot 1 c (pl (nxt j c)) fullShare f))
      ⊢ iprop((owe c O -∗ runs c (k ⟨⟩) Q) -∗ runs c (.op (.semSignal (d, Proc.tc) barS (1#32).toInt) k) Q) := by
  subst hd
  unfold owe
  iintro ⟨#HC, ⟨%W, HO⟩, Ht, H0, H1⟩ Hk
  iapply (Rounds.wp_signal 𝒱₀ ER (Rd m) (c : Thread nD τ) none (dst := (nxt j c : Thread nD τ)) (sem := barS) (r := 0) (d := j) (κ := K (barC (nxt j c)))
      (by rw [duties_bar]; exact Finset.mem_univ _) (amount_bar m (nxt j c) j) () O rfl) $$ [HO Ht H0 H1]
  · isplitr
    · iapply (inv_bar m K (nxt j c)); iapply (ctx_records m K c); iexact HC
    isplitl [HO]; · iexact HO
    isplitl [Ht]; · iexact Ht
    isplitl [H0 H1]
    · rw [payload_bar, prv_nxt]; unfold lend
      isplitl [H0]; · iexact H0
      isplitl [H1]; · iexact H1
      isplitr; · iapply (reached_own m K c (some (1, 0, j.rev))); iexact HC
      isplitr; · iapply (reached_own m K c (some (1, 1, j.rev))); iexact HC
      iapply (reached_own m K c none); iexact HC
    · iapply (reached_bar m K (nxt j c)); iapply (ctx_records m K c); iexact HC
  iintro HO
  iapply Hk; iexists W; iexact HO

/-- The closing signal. -/
theorem step_signal2 (K : GSem nD τ sig → ℕ) (c d : Dev nD) {α : Type} (k : PUnit → Prog (TpuEff nD τ sig (Elt F) Λ₀ .tc) α) (Q : α → sProp 𝕄) (j : Fin 3) (hd : d = nxt j c) (O : CellTallies nD τ sig Unit) :
    iprop(ctx m K c ∗ owe c (O + tBar2 j c) ∗ dutyTok ER (bar2C (nxt j c)) 0 j ∗ reached ER (bar2C (nxt j c)) 0)
      ⊢ iprop((owe c O -∗ runs c (k ⟨⟩) Q) -∗ runs c (.op (.semSignal (d, Proc.tc) bar2S (1#32).toInt) k) Q) := by
  subst hd
  unfold owe
  iintro ⟨#HC, ⟨%W, HO⟩, Ht, Hr⟩ Hk
  iapply (Rounds.wp_signal 𝒱₀ ER (Rd m) (c : Thread nD τ) none (dst := (nxt j c : Thread nD τ)) (sem := bar2S) (r := 0) (d := j) (κ := K (bar2C (nxt j c)))
      (by rw [duties_bar2]; exact Finset.mem_univ _) (amount_bar2 m (nxt j c) j) () O rfl) $$ [HO Ht Hr]
  · isplitr
    · iapply (inv_sc m K (nxt j c) none); iapply (ctx_records m K c); iexact HC
    isplitl [HO]; · iexact HO
    isplitl [Ht]; · iexact Ht
    isplitr; · rw [payload_bar2]; iempintro
    iexact Hr
  iintro HO
  iapply Hk; iexists W; iexact HO

/-- The opening wait: what the three others lend. -/
theorem step_wait (K : GSem nD τ sig → ℕ) (c : Dev nD) {α : Type} (k : PUnit → Prog (TpuEff nD τ sig (Elt F) Λ₀ .tc) α) (Q : α → sProp 𝕄) :
    iprop(ctx m K c ∗ owe c (oCopy c) ∗ cred (tallyAt (barC c) () 3) ∗ atPos ER (barC c) 0 ∅ 0)
      ⊢ iprop(((owe c (oCopy c) ∗ atPos ER (barC c) (0 + 1) ∅ 0 ∗ lend (prv 0 c) 0 ∗ lend (prv 1 c) 1 ∗ lend (prv 2 c) 2) -∗ runs c (k ⟨⟩) Q)
        -∗ runs c (.op (.semWait barS (3#32).toInt) k) Q) := by
  unfold owe
  iintro ⟨#HC, ⟨%W, HO⟩, Hc, Ha⟩ Hk
  iapply (Rounds.wp_wait_rest_token 𝒱₀ ER (Rd m) (c : Thread nD τ) none (κ := K (barC c))
      (wpE_semWait_eq (k := 3) 𝒱₀ (c : Thread nD τ) none Set.univ) (Set.mem_univ _) () (O := oCopy c) (W := W) (R := 0) (m := 0) (T := ∅)
      ((Nat.zero_add 3).trans (expect_bar m c).symm)) $$ [Hc HO Ha]
  · isplitr
    · iapply (inv_bar m K c); iapply (ctx_records m K c); iexact HC
    isplitl [Hc]; · iexact Hc
    isplitl [HO]; · iexact HO
    isplitr
    · iapply (mayWait 1 c (.reg barS) (oCopy c) (le_of_eq (lv_bar c)) (above_copy (by decide) c)); iapply (ctx_lev m K c); iexact HC
    iexact Ha
  iintro ⟨HO, Ha, -, Hp⟩
  ihave Hp' := (Entails.of_eq (rest_bar m c)) $$ Hp
  iapply Hk
  isplitl [HO]; · iexists _; iexact HO
  isplitl [Ha]; · iexact Ha
  iexact Hp'

/-- The closing wait. -/
theorem step_wait2 (K : GSem nD τ sig → ℕ) (c : Dev nD) {α : Type} (k : PUnit → Prog (TpuEff nD τ sig (Elt F) Λ₀ .tc) α) (Q : α → sProp 𝕄) :
    iprop(ctx m K c ∗ owe c 0 ∗ cred (tallyAt (bar2C c) () 3) ∗ atPos ER (bar2C c) 0 ∅ 0)
      ⊢ iprop(((owe c 0 ∗ atPos ER (bar2C c) (0 + 1) ∅ 0) -∗ runs c (k ⟨⟩) Q) -∗ runs c (.op (.semWait bar2S (3#32).toInt) k) Q) := by
  unfold owe
  iintro ⟨#HC, ⟨%W, HO⟩, Hc, Ha⟩ Hk
  iapply (Rounds.wp_wait_rest_token 𝒱₀ ER (Rd m) (c : Thread nD τ) none (κ := K (bar2C c))
      (wpE_semWait_eq (k := 3) 𝒱₀ (c : Thread nD τ) none Set.univ) (Set.mem_univ _) () (O := 0) (W := W) (R := 0) (m := 0) (T := ∅)
      ((Nat.zero_add 3).trans (expect_bar2 m c).symm)) $$ [Hc HO Ha]
  · isplitr
    · iapply (inv_sc m K c none); iapply (ctx_records m K c); iexact HC
    isplitl [Hc]; · iexact Hc
    isplitl [HO]; · iexact HO
    isplitr; · rw [MayWait_zero]; iempintro
    iexact Ha
  iintro ⟨HO, Ha, -, -⟩
  iapply Hk
  isplitl [HO]; · iexists _; iexact HO
  iexact Ha

/-- A copy of the own slot of buffer `b` to the device `j + 1` places on. -/
theorem step_send (K : GSem nD τ sig → ℕ) (c d : Dev nD) {α : Type} (k : PUnit → Prog (TpuEff nD τ sig (Elt F) Λ₀ .tc) α) (Q : α → sProp 𝕄) (b : Fin 2) (j : Fin 3) (hd : d = nxt j c) (O : CellTallies nD τ sig Unit) (s r : DmaSem sig) (hs : s = sS b j) (hr : r = rS b j)
    (hsc : (slotM b c).view.ref.isScScratch = false)
    (h₁ : (slotM b c).view.WordExact) (h₂ : (slotM b c).view.WordExact)
    (h₃ : DmaTarget.Typed (nD := nD) (τ := τ) (sig := sig) .vmem (.dma r) (.remote (Dev.tc d) (slotM b c) (.dma s) hsc)) :
    iprop(ctx m K c ∗ owe c (O + tRcv b j c) ∗ slot b c (pl c) (third j) (gath m b c) ∗ (∃ f, slot b (nxt j c) (pl c) fullShare f)
        ∗ dutyTok ER (sndC b j c) 0 0 ∗ dutyTok ER (rcvC b j (nxt j c)) 0 0 ∗ reached ER (rcvC b j (nxt j c)) 0)
      ⊢ iprop(((cred (tallyAt (sndC b j c) () N) ∗ owe c O) -∗ runs c (k ⟨⟩) Q)
        -∗ runs c (.op (.enqueueDma (slotM b c) (.remote (Dev.tc d) (slotM b c) (.dma s) hsc) (.dma r) h₁ h₂ h₃) k) Q) := by
  subst hd hs hr
  unfold owe
  iintro ⟨#HC, ⟨%W, HO⟩, Hs, ⟨%f, Hd⟩, Ht, Ht', #Hr⟩ Hk
  iapply (Rounds.wp_send_pointsTo 𝒱₀ ER (Rd m) (c : Thread nD τ) none (c' := (nxt j c : Thread nD τ)) (src := slotM b c) (dst := slotM b c)
      (sS := .dma (sS b j)) (sem := .dma (rS b j)) (q := third j) (fs := gath m b c) (κ₁ := K (sndC b j c)) (κ₂ := K (rcvC b j (nxt j c)))
      (r₁ := 0) (r₂ := 0) (d₁ := 0) (d₂ := 0) (fd := f)
      (by rw [duties_snd]; exact Finset.mem_singleton_self _) (by rw [duties_rcv]; exact Finset.mem_singleton_self _)
      () () N (credit_slot b c) (amount_snd m c b j 0) (amount_rcv m (nxt j c) b j 0) O rfl (W := W)
      (by rw [payload_snd]; unfold sent; rw [slot_pl])
      (by rw [payload_rcv]; unfold recd; rw [prv_nxt]; exact Entails.of_eq (landed m b j c (nxt j c) rfl f))) $$ [Hs Hd HO Ht Ht']
  · isplitr
    · iapply (inv_sc m K c (some (0, b, j))); iapply (ctx_records m K c); iexact HC
    isplitr
    · iapply (inv_sc m K (nxt j c) (some (1, b, j))); iapply (ctx_records m K c); iexact HC
    isplitl [Hs]; · iapply (Entails.of_eq (slot_pl b c c (third j) (gath m b c))) $$ Hs
    isplitl [Hd]; · iapply (Entails.of_eq (slot_pl b (nxt j c) c fullShare f)) $$ Hd
    isplitl [HO]; · iexact HO
    isplitl [Ht]; · iexact Ht
    isplitr; · iapply (reached_own m K c (some (0, b, j))); iexact HC
    isplitl [Ht']; · iexact Ht'
    iexact Hr
  iintro ⟨Hc, HO⟩
  iapply Hk
  isplitl [Hc]; · iexact Hc
  iexists W; iexact HO

/-- The wait for a copy's departure: the third of the slot it read. -/
theorem step_sent (K : GSem nD τ sig → ℕ) (c : Dev nD) {α : Type} (k : PUnit → Prog (TpuEff nD τ sig (Elt F) Λ₀ .tc) α) (Q : α → sProp 𝕄) (b : Fin 2) (j : Fin 3) (s : DmaSem sig) (hs : s = sS b j) {sp : Space} {s' : Shape} {e' : EltTy} (src : Memref sig .tc sp s' e')
    (h₁ : src.view.WordExact) (h₂ : (slotM b c).view.WordExact) :
    iprop(ctx m K c ∗ owe c (oClose c) ∗ cred (tallyAt (sndC b j c) () N) ∗ atPos ER (sndC b j c) 0 ∅ 0)
      ⊢ iprop(((owe c (oClose c) ∗ atPos ER (sndC b j c) (0 + 1) ∅ 0 ∗ sent m b j c) -∗ runs c (k ⟨⟩) Q)
        -∗ runs c (.op (.waitDma2 s src (slotM b c) h₁ h₂) k) Q) := by
  subst hs
  unfold owe
  iintro ⟨#HC, ⟨%W, HO⟩, Hc, Ha⟩ Hk
  iapply (Rounds.wp_wait_rest_token 𝒱₀ ER (Rd m) (c : Thread nD τ) none (κ := K (sndC b j c)) (sm := .dma (sS b j))
      (wpE_waitDma2_eq (src := src) (dst := slotM b c) 𝒱₀ (c : Thread nD τ) none Set.univ) (Set.mem_univ _) () (O := oClose c) (W := W) (R := 0) (m := 0) (T := ∅)
      ((Nat.zero_add _).trans ((credit_slot b c).trans (expect_snd m c b j).symm))) $$ [Hc HO Ha]
  · isplitr
    · iapply (inv_sc m K c (some (0, b, j))); iapply (ctx_records m K c); iexact HC
    isplitl [Hc]; · rw [credit_slot]; iexact Hc
    isplitl [HO]; · iexact HO
    isplitr
    · iapply (mayWait 0 c (.dma (sS b j)) (oClose c) (le_of_eq (lv_snd b j c)) (above_close (by decide) c)); iapply (ctx_lev m K c); iexact HC
    iexact Ha
  iintro ⟨HO, Ha, -, Hp⟩
  ihave Hp' := (Entails.of_eq (rest_snd m c b j)) $$ Hp
  iapply Hk
  isplitl [HO]; · iexists _; iexact HO
  isplitl [Ha]; · iexact Ha
  iexact Hp'

/-- The wait for a copy's arrival: the sender's slot, at its block. -/
theorem step_recd (K : GSem nD τ sig → ℕ) (c : Dev nD) {α : Type} (k : PUnit → Prog (TpuEff nD τ sig (Elt F) Λ₀ .tc) α) (Q : α → sProp 𝕄) (b : Fin 2) (j : Fin 3) (s : DmaSem sig) (hs : s = rS b j) {sp : Space} {s' : Shape} {e' : EltTy} (src : Memref sig .tc sp s' e')
    (h₁ : src.view.WordExact) (h₂ : (slotM b c).view.WordExact) :
    iprop(ctx m K c ∗ owe c (oClose c) ∗ cred (tallyAt (rcvC b j c) () N) ∗ atPos ER (rcvC b j c) 0 ∅ 0)
      ⊢ iprop(((owe c (oClose c) ∗ atPos ER (rcvC b j c) (0 + 1) ∅ 0 ∗ recd m b j c) -∗ runs c (k ⟨⟩) Q)
        -∗ runs c (.op (.waitDma2 s src (slotM b c) h₁ h₂) k) Q) := by
  subst hs
  unfold owe
  iintro ⟨#HC, ⟨%W, HO⟩, Hc, Ha⟩ Hk
  iapply (Rounds.wp_wait_rest_token 𝒱₀ ER (Rd m) (c : Thread nD τ) none (κ := K (rcvC b j c)) (sm := .dma (rS b j))
      (wpE_waitDma2_eq (src := src) (dst := slotM b c) 𝒱₀ (c : Thread nD τ) none Set.univ) (Set.mem_univ _) () (O := oClose c) (W := W) (R := 0) (m := 0) (T := ∅)
      ((Nat.zero_add _).trans ((credit_slot b c).trans (expect_rcv m c b j).symm))) $$ [Hc HO Ha]
  · isplitr
    · iapply (inv_sc m K c (some (1, b, j))); iapply (ctx_records m K c); iexact HC
    isplitl [Hc]; · rw [credit_slot]; iexact Hc
    isplitl [HO]; · iexact HO
    isplitr
    · iapply (mayWait 2 c (.dma (rS b j)) (oClose c) (le_of_eq (lv_rcv b j c)) (above_close (by decide) c)); iapply (ctx_lev m K c); iexact HC
    iexact Ha
  iintro ⟨HO, Ha, -, Hp⟩
  ihave Hp' := (Entails.of_eq (rest_rcv m c b j)) $$ Hp
  iapply Hk
  isplitl [HO]; · iexists _; iexact HO
  isplitl [Ha]; · iexact Ha
  iexact Hp'

end Steps

end Cert.KernelIdeal.Talk

end
-- ==== Proof.Loop.lean ====
/- The attention loop: what one trip stores, and what the loop leaves in the result's staging buffer.

   The loop makes eight trips, one per batch entry and pair of heads. Trip `k` reads the queries of its pair and the
   gathered keys and values of its pair (four slots each), and stores one tile of the result. `outB Q KB VB` is the
   whole result as a function of the three buffers the loop reads; the invariant says the tiles of the trips made so
   far are those of `outB`, and after eight trips they are all there is. -/
module

public import proofs.«01_k».proof.Proof.Steps
public import proofs.«01_k».proof.Proof.Gen.KernelIdeal.Loops

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Tactic

/-! ## One tile of the result -/

/-- The queries of batch entry `a`, head pair `b`. -/
def qAt (Q : S2x4x512x128.Idx → Elt F .bf16) (a : Fin 2) (b : Fin 4) : Vec F S1x1x512x128 .bf16 :=
  fun x => Q (ix4 a b (x 2) (x 3))
/-- Slot `z` of a gathered buffer at batch entry `a`, head pair `b`. -/
def gAt (B : S4x2x4x512x128.Idx → Elt F .bf16) (z : Fin 4) (a : Fin 2) (b : Fin 4) : Vec F S1x1x1x512x128 .bf16 :=
  fun x => B (ix5 z a b (x 3) (x 4))

/-- The tile one trip stores, from the queries and the four slots of keys and of values it loads. -/
def tileOf (q : Vec F S1x1x512x128 .bf16) (k0 k1 k2 k3 v0 v1 v2 v3 : Vec F S1x1x1x512x128 .bf16) : FVec F S1x1x512x128 .f32 :=
  k0_pay12 (k0_pay1 q) (k0_pay3 (k0_pay2 k0) k1 k2 k3) (k0_pay4 v0 v1 v2 v3)
    (k0_pay6 (k0_pay1 q) (k0_pay2 k0) k1 k2 k3) (k0_pay7 (k0_pay1 q) (k0_pay2 k0) k1 k2 k3) (k0_pay8 v0 v1 v2 v3)

/-- The tile of batch entry `a`, head pair `b`. -/
def tile (Q : S2x4x512x128.Idx → Elt F .bf16) (KB VB : S4x2x4x512x128.Idx → Elt F .bf16) (a : Fin 2) (b : Fin 4) :
    FVec F S1x1x512x128 .f32 :=
  tileOf (qAt Q a b) (gAt KB 0 a b) (gAt KB 1 a b) (gAt KB 2 a b) (gAt KB 3 a b) (gAt VB 0 a b) (gAt VB 1 a b) (gAt VB 2 a b) (gAt VB 3 a b)

/-- The result, tile by tile. -/
def outB (Q : S2x4x512x128.Idx → Elt F .bf16) (KB VB : S4x2x4x512x128.Idx → Elt F .bf16) : S2x4x512x128.Idx → Elt F .f32 :=
  fun x => tile Q KB VB (x 0) (x 1) (ix4 0 0 (x 2) (x 3))

/-! ## Where a trip reads and writes -/

theorem trips_eq : k0_t1_loop.trips = 8 := by decide +kernel

theorem off3_eq : ∀ k : Fin k0_t1_loop.trips, k0_off3 k = ![k.val / 4, k.val % 4, 0, 0] := by decide +kernel
theorem off4_eq : ∀ k : Fin k0_t1_loop.trips, k0_off4 k = ![0, k.val / 4, k.val % 4, 0, 0] := by decide +kernel
theorem off5_eq : ∀ k : Fin k0_t1_loop.trips, k0_off5 k = ![1, k.val / 4, k.val % 4, 0, 0] := by decide +kernel
theorem off6_eq : ∀ k : Fin k0_t1_loop.trips, k0_off6 k = ![2, k.val / 4, k.val % 4, 0, 0] := by decide +kernel
theorem off7_eq : ∀ k : Fin k0_t1_loop.trips, k0_off7 k = ![3, k.val / 4, k.val % 4, 0, 0] := by decide +kernel

/-- Trip `k`'s batch entry and head pair. -/
def ent (k : Fin k0_t1_loop.trips) : Fin 2 := ⟨k.val / 4, by have := k.isLt; have := trips_eq; omega⟩
def pair (k : Fin k0_t1_loop.trips) : Fin 4 := ⟨k.val % 4, Nat.mod_lt _ (by decide)⟩

omit [FloatOps F] in
/-- A tile read at an offset holding its coordinates. -/
theorem read_q (Q : S2x4x512x128.Idx → Elt F .bf16) (o : Fin 4 → ℕ) (a : Fin 2) (b : Fin 4) (ho : o = ![a.val, b.val, 0, 0])
    (inb : ∀ d, o d + S1x1x512x128.size d ≤ S2x4x512x128.size d) :
    (fun x => Q ((Rect.unit (s := S2x4x512x128) o S1x1x512x128.size inb).toLoadRect.idx x)) = qAt Q a b := by
  subst ho
  funext x
  have h0 : (x 0).val < 1 := (x 0).isLt
  have h1 : (x 1).val < 1 := (x 1).isLt
  refine congrArg Q (funext fun d => Fin.ext ?_)
  match d with
  | 0 => show a.val + 1 * (x 0).val = a.val; omega
  | 1 => show b.val + 1 * (x 1).val = b.val; omega
  | 2 => show 0 + 1 * (x 2).val = (x 2).val; omega
  | 3 => show 0 + 1 * (x 3).val = (x 3).val; omega
omit [FloatOps F] in
theorem read_g (B : S4x2x4x512x128.Idx → Elt F .bf16) (o : Fin 5 → ℕ) (z : Fin 4) (a : Fin 2) (b : Fin 4)
    (ho : o = ![z.val, a.val, b.val, 0, 0]) (inb : ∀ d, o d + S1x1x1x512x128.size d ≤ S4x2x4x512x128.size d) :
    (fun x => B ((Rect.unit (s := S4x2x4x512x128) o S1x1x1x512x128.size inb).toLoadRect.idx x)) = gAt B z a b := by
  subst ho
  funext x
  have h0 : (x 0).val < 1 := (x 0).isLt
  have h1 : (x 1).val < 1 := (x 1).isLt
  have h2 : (x 2).val < 1 := (x 2).isLt
  refine congrArg B (funext fun d => Fin.ext ?_)
  match d with
  | 0 => show z.val + 1 * (x 0).val = z.val; omega
  | 1 => show a.val + 1 * (x 1).val = a.val; omega
  | 2 => show b.val + 1 * (x 2).val = b.val; omega
  | 3 => show 0 + 1 * (x 3).val = (x 3).val; omega
  | 4 => show 0 + 1 * (x 4).val = (x 4).val; omega

/-- A tile written at an offset holding its coordinates: the tile's entries change, the others stay. -/
theorem write_tile (f : S2x4x512x128.Idx → Elt F .f32) (o : Fin 4 → ℕ) (a : Fin 2) (b : Fin 4) (ho : o = ![a.val, b.val, 0, 0])
    (inb : ∀ d, o d + S1x1x512x128.size d ≤ S2x4x512x128.size d) (w : S1x1x512x128.Idx → Elt F .f32) (x : S2x4x512x128.Idx) :
    ((Memref.whole cc0_stg3_0).view.writes (Elt F) f [⟨Rect.unit (s := S2x4x512x128) o S1x1x512x128.size inb, w⟩] : S2x4x512x128.Idx → Elt F .f32) x
      = if (x 0).val = a.val ∧ (x 1).val = b.val then w (ix4 0 0 (x 2) (x 3)) else f x := by
  subst ho
  rw [View.writes_singleton]
  split_ifs with h
  · obtain ⟨ha, hb⟩ := h
    have e : ((Memref.whole cc0_stg3_0).view.slice (Rect.unit (s := S2x4x512x128) ![a.val, b.val, 0, 0] S1x1x512x128.size inb)).emb
        (ix4 0 0 (x 2) (x 3)) = x := by
      funext d
      refine Fin.ext ?_
      match d with
      | 0 => show a.val + 1 * 0 = (x 0).val; omega
      | 1 => show b.val + 1 * 0 = (x 1).val; omega
      | 2 => show 0 + 1 * (x 2).val = (x 2).val; omega
      | 3 => show 0 + 1 * (x 3).val = (x 3).val; omega
    have w1 := View.write_emb_of_mem (v := (Memref.whole cc0_stg3_0).view.slice (Rect.unit (s := S2x4x512x128) ![a.val, b.val, 0, 0] S1x1x512x128.size inb))
      (Val := Elt F) f w (Finset.mem_univ (ix4 0 0 (x 2) (x 3)))
    exact (congrArg (((Memref.whole cc0_stg3_0).view.slice (Rect.unit (s := S2x4x512x128) ![a.val, b.val, 0, 0] S1x1x512x128.size inb)).write (Elt F) f w Finset.univ) e.symm).trans w1
  · refine View.write_of_not_mem (v := (Memref.whole cc0_stg3_0).view.slice (Rect.unit (s := S2x4x512x128) ![a.val, b.val, 0, 0] S1x1x512x128.size inb))
      (Val := Elt F) f w Finset.univ ?_
    intro hx
    obtain ⟨y, -, rfl⟩ := Finset.mem_map.mp hx
    have h0 : (y 0).val < 1 := (y 0).isLt
    have h1 : (y 1).val < 1 := (y 1).isLt
    exact h ⟨by show a.val + 1 * (y 0).val = a.val; omega, by show b.val + 1 * (y 1).val = b.val; omega⟩

/-! ## The trip -/

/-- The region of the loop, on the buffers the kernel is called with. -/
abbrev tripAt (d0 : Dev nD) (v2 v5 v8 v161 : BitVec 32) (k : Fin k0_t1_loop.trips) (x : Unit) : Prog (TpuEff nD τ sig (Elt F) Λ₀ .tc) PUnit :=
  k0_t1_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scoped0 d0 v2 v5 v8 v161 k x

/-- The buffers the loop reads. -/
def loopReads (c : Dev nD) (Q : S2x4x512x128.Idx → Elt F .bf16) (KB VB : S4x2x4x512x128.Idx → Elt F .bf16) : sProp 𝕄 :=
  iprop(((Memref.whole cc0_stg0_0).view.loc (c : Thread nD τ) ↦[(Memref.whole cc0_stg0_0).view.set]{fullShare} Q) ∗
    ((Memref.whole cc0_scratch0).view.loc (c : Thread nD τ) ↦[(Memref.whole cc0_scratch0).view.set]{fullShare} KB) ∗
    ((Memref.whole cc0_scratch1).view.loc (c : Thread nD τ) ↦[(Memref.whole cc0_scratch1).view.set]{fullShare} VB))
/-- The buffer it writes. -/
def loopWrites (c : Dev nD) (f : S2x4x512x128.Idx → Elt F .f32) : sProp 𝕄 :=
  (Memref.whole cc0_stg3_0).view.loc (c : Thread nD τ) ↦[(Memref.whole cc0_stg3_0).view.set]{fullShare} f

theorem trip (c d0 : Dev nD) (v2 v5 v8 v161 : BitVec 32) (k : Fin k0_t1_loop.trips) (x : Unit)
    (Q : S2x4x512x128.Idx → Elt F .bf16) (KB VB : S4x2x4x512x128.Idx → Elt F .bf16) (f : S2x4x512x128.Idx → Elt F .f32) :
    iprop(loopReads c Q KB VB ∗ loopWrites c f : sProp 𝕄)
    ⊢ runs c (tripAt d0 v2 v5 v8 v161 k x) (fun _ => iprop(loopReads c Q KB VB ∗
        loopWrites c ((Memref.whole cc0_stg3_0).view.writes (Elt F) f [⟨Rect.unit (s := S2x4x512x128) (k0_off3 k) S1x1x512x128.size (k0_off3_inb k),
          tile Q KB VB (ent k) (pair k)⟩]))) := by
  have hk : k.val < 8 := Nat.lt_of_lt_of_le k.isLt k0_t1_abs.2.1
  have eq := read_q Q (k0_off3 k) (ent k) (pair k) (off3_eq k) (k0_off3_inb k)
  have k0 := read_g KB (k0_off4 k) 0 (ent k) (pair k) (off4_eq k) (k0_off4_inb k)
  have k1 := read_g KB (k0_off5 k) 1 (ent k) (pair k) (off5_eq k) (k0_off5_inb k)
  have k2 := read_g KB (k0_off6 k) 2 (ent k) (pair k) (off6_eq k) (k0_off6_inb k)
  have k3 := read_g KB (k0_off7 k) 3 (ent k) (pair k) (off7_eq k) (k0_off7_inb k)
  have w0 := read_g VB (k0_off4 k) 0 (ent k) (pair k) (off4_eq k) (k0_off4_inb k)
  have w1 := read_g VB (k0_off5 k) 1 (ent k) (pair k) (off5_eq k) (k0_off5_inb k)
  have w2 := read_g VB (k0_off6 k) 2 (ent k) (pair k) (off6_eq k) (k0_off6_inb k)
  have w3 := read_g VB (k0_off7 k) 3 (ent k) (pair k) (off7_eq k) (k0_off7_inb k)
  unfold tile
  rw [← eq, ← k0, ← k1, ← k2, ← k3, ← w0, ← w1, ← w2, ← w3]
  clear eq k0 k1 k2 k3 w0 w1 w2 w3
  unfold loopReads loopWrites tripAt k0_t1_body runs
  iintro ⟨⟨HQ, HK, HV⟩, HO⟩
  sl_exec
  sl_step
  isplitr [HO]
  · isplitl [HQ]; · iexact HQ
    isplitl [HK]; · iexact HK
    iexact HV
  iexact HO

/-! ## The loop -/

/-- Before trip `k`: the tiles of the trips before it are the result's. -/
def loopInv (c : Dev nD) (Q : S2x4x512x128.Idx → Elt F .bf16) (KB VB : S4x2x4x512x128.Idx → Elt F .bf16) (k : ℕ) (_ : Unit) : sProp 𝕄 :=
  iprop(loopReads c Q KB VB ∗ ∃ f, loopWrites c f ∗ ⌜∀ x : S2x4x512x128.Idx, 4 * (x 0).val + (x 1).val < k → f x = outB Q KB VB x⌝)

theorem loopInv_step (c d0 : Dev nD) (v2 v5 v8 v161 : BitVec 32)
    (Q : S2x4x512x128.Idx → Elt F .bf16) (KB VB : S4x2x4x512x128.Idx → Elt F .bf16) (k : Fin k0_t1_loop.trips) (x : Unit) :
    (loopInv c Q KB VB k.val x : sProp 𝕄) ⊢ runs c (tripAt d0 v2 v5 v8 v161 k x) (loopInv c Q KB VB (k.val + 1)) := by
  unfold loopInv
  iintro ⟨HR, ⟨%f, HO, %hf⟩⟩
  iapply (wp_wand_r Idealize.ShloMosaic.frame (wpE (defs₀ (F := F)) 𝒱₀ (c : Thread nD τ) none) Set.univ)
  isplitl [HR HO]
  · iapply (trip c d0 v2 v5 v8 v161 k x Q KB VB f)
    isplitl [HR] <;> iassumption
  iintro %_ ⟨HR, HO⟩
  isplitl [HR]; · iexact HR
  iexists _; isplitl [HO]; · iexact HO
  ipureintro
  intro y hy
  rw [write_tile f (k0_off3 k) (ent k) (pair k) (off3_eq k)]
  have y1 : (y 1).val < 4 := (y 1).isLt
  split_ifs with h
  · obtain ⟨h0, h1⟩ := h
    have e0 : y 0 = ent k := Fin.ext h0
    have e1 : y 1 = pair k := Fin.ext h1
    unfold outB; rw [e0, e1]
  · refine hf y ?_
    rcases Nat.lt_or_ge (4 * (y 0).val + (y 1).val) k.val with h' | h'
    · exact h'
    · refine absurd ⟨?_, ?_⟩ h
      · show (y 0).val = k.val / 4; omega
      · show (y 1).val = k.val % 4; omega

/-- The loop at the head of a program: it leaves the whole result. -/
theorem step_loop (c d0 : Dev nD) (v2 v5 v8 v161 : BitVec 32) {α : Type}
    (Q : S2x4x512x128.Idx → Elt F .bf16) (KB VB : S4x2x4x512x128.Idx → Elt F .bf16) (f : S2x4x512x128.Idx → Elt F .f32)
    (k : Unit → Prog (TpuEff nD τ sig (Elt F) Λ₀ .tc) α) (R : α → sProp 𝕄) :
    iprop(loopReads c Q KB VB ∗ loopWrites c f)
    ⊢ iprop((loopReads c Q KB VB ∗ loopWrites c (outB Q KB VB) -∗ runs c (k ⟨⟩) R) -∗
        runs c (Scf.Loop.for k0_t1_loop k0_t1_ok ⟨⟩ (tripAt d0 v2 v5 v8 v161) >>= k) R) := by
  iintro ⟨HR, HO⟩ Hk
  iapply (Scf.wp_for_bind Idealize.ShloMosaic.frame (wpE (defs₀ (F := F)) 𝒱₀ (c : Thread nD τ) none) Set.univ
    k0_t1_loop.lb k0_t1_loop.ub k0_t1_loop.st k0_t1_ok ⟨⟩ (tripAt d0 v2 v5 v8 v161) (loopInv c Q KB VB)
    (loopInv_step c d0 v2 v5 v8 v161 Q KB VB)) $$ [HR HO]
  · unfold loopInv
    isplitl [HR]; · iexact HR
    iexists f; isplitl [HO]; · iexact HO
    ipureintro; intro x hx; omega
  iintro %_ HI
  unfold loopInv
  icases HI with ⟨HR, ⟨%g, HO, %hg⟩⟩
  have e : g = outB Q KB VB := funext fun x => hg x (by
    have x0 : (x 0).val < 2 := (x 0).isLt
    have x1 : (x 1).val < 4 := (x 1).isLt
    have := trips_eq
    show _ < k0_t1_loop.trips
    omega)
  subst e
  iapply Hk
  isplitl [HR] <;> iassumption

end Cert.KernelIdeal.Talk

end
-- ==== Proof.Own.lean ====
/- The steps a device makes on its own buffers, and how its gather buffers are split into slots and put together
   again. -/
module

public import proofs.«01_k».proof.Proof.Loop

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting by place -/

/-- The four places of a z-group, from `c`'s own on. -/
theorem bigSep_places (c : Dev nD) (P : Fin 4 → sProp 𝕄) :
    bigSep Finset.univ P = iprop(P (pl c) ∗ P (pl (nxt 0 c)) ∗ P (pl (nxt 1 c)) ∗ P (pl (nxt 2 c))) := by
  rw [pl_nxt, pl_nxt, pl_nxt]
  generalize pl c = z
  rw [bigSep_univ_eq_bigSepL [z, z + (0 : Fin 3).succ, z + (1 : Fin 3).succ, z + (2 : Fin 3).succ] (by revert z; decide) (by revert z; decide)]
  rfl

/-- What a neighbour lends, read from the borrower's side: its slots at the borrower's place, and that its cells are
    open. -/
theorem lend_to (c : Dev nD) (j i : Fin 3) (h : i = j.rev) :
    (lend (F := F) (prv i c) i : sProp 𝕄)
      = iprop((∃ f, slot 0 (nxt j c) (pl c) fullShare f) ∗ (∃ f, slot 1 (nxt j c) (pl c) fullShare f)
        ∗ reached ER (rcvC 0 j (nxt j c)) 0 ∗ reached ER (rcvC 1 j (nxt j c)) 0 ∗ reached ER (bar2C (nxt j c)) 0) := by
  subst h
  unfold lend
  rw [nxt_prv, prv_rev, Fin.rev_rev]

/-- What a copy leaves where it lands, its sender named from the receiver. -/
theorem recd_from (b : Fin 2) (c : Dev nD) (j : Fin 3) :
    (recd m b j.rev c : sProp 𝕄) = slot b c (pl (nxt j c)) fullShare (gath m b c) := by
  unfold recd; rw [prv_rev]

/-- A gather buffer at contents not chosen, as its slots. -/
theorem split_slots (b : Fin 2) (c : Dev nD) (f : BufTy.Contents (Elt F) (bufM b).view.ty) :
    (whole b c f : sProp 𝕄) ⊢ iprop((∃ f, slot b c (pl c) fullShare f) ∗ (∃ f, slot b c (pl (nxt 0 c)) fullShare f)
      ∗ (∃ f, slot b c (pl (nxt 1 c)) fullShare f) ∗ (∃ f, slot b c (pl (nxt 2 c)) fullShare f)) := by
  rw [whole_slots, bigSep_places c]
  iintro ⟨H0, H1, H2, H3⟩
  isplitl [H0]; · iexists f; iexact H0
  isplitl [H1]; · iexists f; iexact H1
  isplitl [H2]; · iexists f; iexact H2
  iexists f; iexact H3

/-- The thirds the copies read and the slots they filled are the whole gathered buffer. -/
theorem join_slots (b : Fin 2) (c : Dev nD) :
    iprop((sent m b 0 c ∗ sent m b 1 c ∗ sent m b 2 c) ∗ recd m b 0 c ∗ recd m b 1 c ∗ recd m b 2 c)
      ⊢ (whole b c (gath m b c) : sProp 𝕄) := by
  rw [whole_slots, bigSep_places c, ← recd_from m b c 0, ← recd_from m b c 1, ← recd_from m b c 2]
  iintro ⟨HS, H0, H1, H2⟩
  isplitl [HS]; · iapply (slot_whole b c (pl c) (gath m b c)); unfold sent; iexact HS
  isplitl [H2]; · iexact H2
  isplitl [H1]; · iexact H1
  iexact H0

/-! ## Loads and stores -/

omit [FloatOps F] in
theorem read_stg1 (inb) (f : S2x4x512x128.Idx → Elt F .bf16) :
    ((Memref.whole cc0_stg1_0).access (Rect.unit (s := S2x4x512x128) ![0, 0, 0, 0] S2x4x512x128.size inb)).read (Elt F) f = f := by
  funext x
  refine congrArg f (funext fun d => Fin.ext ?_)
  match d with
  | 0 => show 0 + 1 * (x 0).val = (x 0).val; omega
  | 1 => show 0 + 1 * (x 1).val = (x 1).val; omega
  | 2 => show 0 + 1 * (x 2).val = (x 2).val; omega
  | 3 => show 0 + 1 * (x 3).val = (x 3).val; omega
omit [FloatOps F] in
theorem read_stg2 (inb) (f : S2x4x512x128.Idx → Elt F .bf16) :
    ((Memref.whole cc0_stg2_0).access (Rect.unit (s := S2x4x512x128) ![0, 0, 0, 0] S2x4x512x128.size inb)).read (Elt F) f = f := by
  funext x
  refine congrArg f (funext fun d => Fin.ext ?_)
  match d with
  | 0 => show 0 + 1 * (x 0).val = (x 0).val; omega
  | 1 => show 0 + 1 * (x 1).val = (x 1).val; omega
  | 2 => show 0 + 1 * (x 2).val = (x 2).val; omega
  | 3 => show 0 + 1 * (x 3).val = (x 3).val; omega

/-- A staging buffer of the kernel, whole. -/
def stg1 (c : Dev nD) (f : S2x4x512x128.Idx → Elt F .bf16) : sProp 𝕄 :=
  (Memref.whole cc0_stg1_0).view.loc (c : Thread nD τ) ↦{fullShare} f
def stg2 (c : Dev nD) (f : S2x4x512x128.Idx → Elt F .bf16) : sProp 𝕄 :=
  (Memref.whole cc0_stg2_0).view.loc (c : Thread nD τ) ↦{fullShare} f

theorem step_stg1 (c : Dev nD) {α : Type} (k : (S2x4x512x128.Idx → Elt F .bf16) → Prog (TpuEff nD τ sig (Elt F) Λ₀ .tc) α) (Q : α → sProp 𝕄)
    (inb) (hl) (f : S2x4x512x128.Idx → Elt F .bf16) :
    (stg1 c f : sProp 𝕄) ⊢ iprop((stg1 c f -∗ runs c (k f) Q) -∗ runs c (.op (.load (Memref.whole cc0_stg1_0) (Rect.unit (s := S2x4x512x128) ![0, 0, 0, 0] S2x4x512x128.size inb).toLoadRect hl) k) Q) := by
  have h := wp_load_rect (defs := defs₀ (F := F)) 𝒱₀ (c : Thread nD τ) none (Γ := ∅) Set.univ (Q := Q) (m := Memref.whole cc0_stg1_0)
    (r := Rect.unit (s := S2x4x512x128) ![0, 0, 0, 0] S2x4x512x128.size inb) (hl := hl) (k := k) (q := fullShare) (f := f) (Finset.subset_univ _)
  rw [read_stg1 inb f] at h
  exact h
theorem step_stg2 (c : Dev nD) {α : Type} (k : (S2x4x512x128.Idx → Elt F .bf16) → Prog (TpuEff nD τ sig (Elt F) Λ₀ .tc) α) (Q : α → sProp 𝕄)
    (inb) (hl) (f : S2x4x512x128.Idx → Elt F .bf16) :
    (stg2 c f : sProp 𝕄) ⊢ iprop((stg2 c f -∗ runs c (k f) Q) -∗ runs c (.op (.load (Memref.whole cc0_stg2_0) (Rect.unit (s := S2x4x512x128) ![0, 0, 0, 0] S2x4x512x128.size inb).toLoadRect hl) k) Q) := by
  have h := wp_load_rect (defs := defs₀ (F := F)) 𝒱₀ (c : Thread nD τ) none (Γ := ∅) Set.univ (Q := Q) (m := Memref.whole cc0_stg2_0)
    (r := Rect.unit (s := S2x4x512x128) ![0, 0, 0, 0] S2x4x512x128.size inb) (hl := hl) (k := k) (q := fullShare) (f := f) (Finset.subset_univ _)
  rw [read_stg2 inb f] at h
  exact h

/-- The elements of the device's own slot, as its loads and stores address them. -/
theorem own_set (b : Fin 2) (c : Dev nD) (o : Fin 5 → ℕ) (ho : o = ![(pl c).val, 0, 0, 0, 0])
    (inb : ∀ a, o a + S1x2x4x512x128.size a ≤ S4x2x4x512x128.size a) :
    ((bufM b).access (Rect.unit (s := S4x2x4x512x128) o S1x2x4x512x128.size inb)).set = (slotAt b (pl c)).view.set := by
  subst ho
  match b with
  | 0 => exact (View.set_slice_whole _ _).trans ((rect_set _).trans (set_slotAt0 _).symm)
  | 1 => exact (View.set_slice_whole _ _).trans ((rect_set _).trans (set_slotAt1 _).symm)

/-- The load before the store of the own slot: what it reads is not used. -/
theorem step_peek (b : Fin 2) (c : Dev nD) {α : Type} (k : (S1x2x4x512x128.Idx → Elt F .bf16) → Prog (TpuEff nD τ sig (Elt F) Λ₀ .tc) α) (Q : α → sProp 𝕄)
    (hl) (f : BufTy.Contents (Elt F) (bufM b).view.ty) :
    (slot b c (pl c) fullShare f : sProp 𝕄) ⊢ iprop((∀ v, slot b c (pl c) fullShare f -∗ runs c (k v) Q)
      -∗ runs c (.op (.load (bufM b) (Rect.unit (s := S4x2x4x512x128) (k0_off1 c) S1x2x4x512x128.size (k0_off1_inb c)).toLoadRect hl) k) Q) := by
  iintro H Hk
  iapply (wp_load_rect (defs := defs₀ (F := F)) 𝒱₀ (c : Thread nD τ) none (Γ := ∅) Set.univ (Q := Q) (m := bufM b)
    (r := Rect.unit (s := S4x2x4x512x128) (k0_off1 c) S1x2x4x512x128.size (k0_off1_inb c)) (hl := hl) (k := k) (q := fullShare) (f := f)
    (S := (slotAt b (pl c)).view.set) (own_set b c _ (k0_off1_eq c) _).subset) $$ [H]
  · unfold slot; iexact H
  iintro H
  iapply Hk
  unfold slot; iexact H

/-- The store of the own slot. -/
theorem step_put (b : Fin 2) (c : Dev nD) {α : Type} (k : PUnit → Prog (TpuEff nD τ sig (Elt F) Λ₀ .tc) α) (Q : α → sProp 𝕄)
    (w : S1x2x4x512x128.Idx → Elt F .bf16) (hw : ∀ x, w x = blk m b c (ix4 (x 1) (x 2) (x 3) (x 4))) (hx) (hm) (f : BufTy.Contents (Elt F) (bufM b).view.ty) :
    (slot b c (pl c) fullShare f : sProp 𝕄) ⊢ iprop((slot b c (pl c) fullShare (gath m b c) -∗ runs c (k ⟨⟩) Q)
      -∗ runs c (.op (.store (bufM b) (Rect.unit (s := S4x2x4x512x128) (k0_off1 c) S1x2x4x512x128.size (k0_off1_inb c)) w Finset.univ hx hm) k) Q) := by
  iintro H Hk
  iapply (wp_store (defs := defs₀ (F := F)) 𝒱₀ (c : Thread nD τ) none (Γ := ∅) Set.univ (Q := Q) (m := bufM b)
    (r := Rect.unit (s := S4x2x4x512x128) (k0_off1 c) S1x2x4x512x128.size (k0_off1_inb c)) (w := w) (Mk := Finset.univ) (hx := hx) (hm := hm) (k := k) (f := f)
    (S := (slotAt b (pl c)).view.set) (own_set b c _ (k0_off1_eq c) _).subset) $$ [H]
  · unfold slot; iexact H
  iintro H
  iapply Hk
  iapply (Entails.of_eq (store_slot m b c (k0_off1 c) (k0_off1_eq c) (k0_off1_inb c) w hw f)) $$ H

/-! ## Closing the cells -/

/-- A cell at the end of its round is closed, its semaphore at 0. -/
theorem close (κ : ℕ) (g : GSem nD τ sig) :
    iprop(cellInv ER (Rd m) κ g ∗ atPos ER g (0 + 1) ∅ 0) ⊢ (|={Set.univ}=> semVal g 0 : sProp 𝕄) :=
  Rounds.cell_close ER (Rd m) (Set.mem_univ κ) id (duties_later m g)

theorem close_bar (K : GSem nD τ sig → ℕ) (c : Dev nD) :
    iprop(ctx m K c ∗ atPos ER (barC c) (0 + 1) ∅ 0) ⊢ (|={Set.univ}=> semVal (barC c) 0 : sProp 𝕄) := by
  iintro ⟨#HC, H⟩
  iapply (close m (K (barC c)) (barC c))
  isplitr
  · iapply (inv_bar m K c); iapply (ctx_records m K c); iexact HC
  iexact H
theorem close_own (K : GSem nD τ sig → ℕ) (c : Dev nD) (k : Kx) :
    iprop(ctx m K c ∗ atPos ER ((c : Thread nD τ), osem k) (0 + 1) ∅ 0) ⊢ (|={Set.univ}=> semVal ((c : Thread nD τ), osem k) 0 : sProp 𝕄) := by
  iintro ⟨#HC, H⟩
  iapply (close m (K ((c : Thread nD τ), osem k)) ((c : Thread nD τ), osem k))
  isplitr
  · iapply (inv_sc m K c k); iapply (ctx_records m K c); iexact HC
  iexact H

/-- All the kernel's own cells at once. -/
theorem close_all (K : GSem nD τ sig → ℕ) (c : Dev nD) :
    iprop(ctx m K c ∗ bigSep Finset.univ fun k : Kx => atPos ER ((c : Thread nD τ), osem k) (0 + 1) ∅ 0)
      ⊢ (|={Set.univ}=> bigSep Finset.univ fun k : Kx => semVal ((c : Thread nD τ), osem k) 0 : sProp 𝕄) := by
  refine (bigSep_with_persistent (R := ctx m K c) (S := Finset.univ) (Φ := fun k : Kx => atPos ER ((c : Thread nD τ), osem k) (0 + 1) ∅ 0)
    (Ψ := fun k : Kx => iprop(|={Set.univ}=> semVal ((c : Thread nD τ), osem k) 0)) fun k _ => close_own m K c k).trans ?_
  exact bigSep_fupd _ _

end Cert.KernelIdeal.Talk

end
-- ==== Proof.Run.lean ====
/- The kernel run on one device, whichever it is.

   The body is read as one list of memory operations and taken step by step: three opening signals lend the
   neighbours the slots they will fill; after the wait, the own block goes into the own slot of both gather buffers and
   six copies leave, each reading a third of the own slot; the waits bring back the thirds and the slots the neighbours
   filled; the loop then reads the gathered buffers whole; three closing signals and a wait end the kernel. -/
module

public import proofs.«01_k».proof.Proof.Own

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Lists of six and of thirteen -/

theorem bigSep_copies (P : Fin 2 × Fin 3 → sProp 𝕄) :
    bigSep Finset.univ P = iprop(P (0, 0) ∗ P (1, 0) ∗ P (0, 1) ∗ P (1, 1) ∗ P (0, 2) ∗ P (1, 2)) := by
  rw [bigSep_univ_eq_bigSepL [(0, 0), (1, 0), (0, 1), (1, 1), (0, 2), (1, 2)] (by decide) (by decide)]; rfl

theorem bigSep_own (P : Kx → sProp 𝕄) :
    bigSep Finset.univ P = iprop(P none
      ∗ P (some (0, 0, 0)) ∗ P (some (1, 0, 0)) ∗ P (some (0, 1, 0)) ∗ P (some (1, 1, 0))
      ∗ P (some (0, 0, 1)) ∗ P (some (1, 0, 1)) ∗ P (some (0, 1, 1)) ∗ P (some (1, 1, 1))
      ∗ P (some (0, 0, 2)) ∗ P (some (1, 0, 2)) ∗ P (some (0, 1, 2)) ∗ P (some (1, 1, 2))) := by
  rw [bigSep_univ_eq_bigSepL [none, some (0, 0, 0), some (1, 0, 0), some (0, 1, 0), some (1, 1, 0), some (0, 0, 1), some (1, 0, 1),
    some (0, 1, 1), some (1, 1, 1), some (0, 0, 2), some (1, 0, 2), some (0, 1, 2), some (1, 1, 2)] (by decide) (by decide)]; rfl

/-! ## What the kernel begins and ends with -/

/-- The other two staging buffers, whole. -/
def stg0 (c : Dev nD) (f : S2x4x512x128.Idx → Elt F .bf16) : sProp 𝕄 :=
  (Memref.whole cc0_stg0_0).view.loc (c : Thread nD τ) ↦{fullShare} f
def stg3 (c : Dev nD) (f : S2x4x512x128.Idx → Elt F .f32) : sProp 𝕄 :=
  (Memref.whole cc0_stg3_0).view.loc (c : Thread nD τ) ↦{fullShare} f

theorem loopReads_eq (c : Dev nD) (Q : S2x4x512x128.Idx → Elt F .bf16) (KB VB : S4x2x4x512x128.Idx → Elt F .bf16) :
    (loopReads c Q KB VB : sProp 𝕄) = iprop(stg0 c Q ∗ whole 0 c KB ∗ whole 1 c VB) := by
  unfold loopReads stg0 whole
  have e0 : (Memref.whole cc0_stg0_0).view.set = Finset.univ := View.set_whole _
  have e1 : (Memref.whole cc0_scratch0).view.set = Finset.univ := View.set_whole _
  have e2 : (Memref.whole cc0_scratch1).view.set = Finset.univ := View.set_whole _
  rw [e0, e1, e2]
  rfl
theorem loopWrites_eq (c : Dev nD) (f : S2x4x512x128.Idx → Elt F .f32) : (loopWrites c f : sProp 𝕄) = stg3 c f := by
  unfold loopWrites stg3
  have e0 : (Memref.whole cc0_stg3_0).view.set = Finset.univ := View.set_whole _
  rw [e0]

/-- The loop in these terms. -/
theorem step_attend (c d0 : Dev nD) (v2 v5 v8 v161 : BitVec 32) {α : Type} (Q : S2x4x512x128.Idx → Elt F .bf16)
    (KB : BufTy.Contents (Elt F) (bufM 0).view.ty) (VB : BufTy.Contents (Elt F) (bufM 1).view.ty) (f : S2x4x512x128.Idx → Elt F .f32)
    (k : Unit → Prog (TpuEff nD τ sig (Elt F) Λ₀ .tc) α) (R : α → sProp 𝕄) :
    iprop((stg0 c Q ∗ whole 0 c KB ∗ whole 1 c VB) ∗ stg3 c f)
    ⊢ iprop(((stg0 c Q ∗ whole 0 c KB ∗ whole 1 c VB) ∗ stg3 c (outB Q KB VB) -∗ runs c (k ⟨⟩) R) -∗
        runs c (Scf.Loop.for k0_t1_loop k0_t1_ok ⟨⟩ (tripAt d0 v2 v5 v8 v161) >>= k) R) := by
  have h := step_loop c d0 v2 v5 v8 v161 Q KB VB f k R
  rw [loopReads_eq c Q KB VB, loopWrites_eq, loopWrites_eq] at h
  exact h

/-- The end of the program. -/
theorem run_end (c : Dev nD) (R : PUnit → sProp 𝕄) : (|={Set.univ}=> R ⟨⟩ : sProp 𝕄) ⊢ runs c (.ret ⟨⟩) R := by
  unfold runs; rw [wp_ret]

/-- Before its first operation: every cell at its first round, the duties the device will pay, the credits its waits
    spend, the three blocks staged, and the two gather buffers at contents not chosen. -/
def runPre (K : GSem nD τ sig → ℕ) (c : Dev nD) (Q : S2x4x512x128.Idx → Elt F .bf16) (f : S2x4x512x128.Idx → Elt F .f32) : sProp 𝕄 :=
  iprop(ctx m K c ∗ owe c (O₀ c)
    ∗ atPos ER (barC c) 0 ∅ 0 ∗ (bigSep Finset.univ fun k : Kx => atPos ER ((c : Thread nD τ), osem k) 0 ∅ 0)
    ∗ (bigSep Finset.univ fun j : Fin 3 => dutyTok ER (barC (nxt j c)) 0 j)
    ∗ (bigSep Finset.univ fun j : Fin 3 => dutyTok ER (bar2C (nxt j c)) 0 j)
    ∗ (bigSep Finset.univ fun x : Fin 2 × Fin 3 => dutyTok ER (rcvC x.1 x.2 (nxt x.2 c)) 0 0)
    ∗ (bigSep Finset.univ fun x : Fin 2 × Fin 3 => dutyTok ER (sndC x.1 x.2 c) 0 0)
    ∗ cred (tallyAt (barC c) () 3) ∗ cred (tallyAt (bar2C c) () 3)
    ∗ (bigSep Finset.univ fun x : Fin 2 × Fin 3 => cred (tallyAt (rcvC x.1 x.2 c) () N))
    ∗ stg0 c Q ∗ stg1 c (blk m 0 c) ∗ stg2 c (blk m 1 c) ∗ stg3 c f
    ∗ (∃ g, whole 0 c g) ∗ (∃ g, whole 1 c g))

/-- After its last: nothing owed, every cell closed, the result staged and both gather buffers filled. -/
def runPost (c : Dev nD) (Q : S2x4x512x128.Idx → Elt F .bf16) : sProp 𝕄 :=
  iprop(owe c 0 ∗ semVal (barC c) 0 ∗ (bigSep Finset.univ fun k : Kx => semVal ((c : Thread nD τ), osem k) 0)
    ∗ stg0 c Q ∗ stg1 c (blk m 0 c) ∗ stg2 c (blk m 1 c) ∗ stg3 c (outB Q (gath m 0 c) (gath m 1 c))
    ∗ whole 0 c (gath m 0 c) ∗ whole 1 c (gath m 1 c))

/-- The body, on the buffers it is called with. -/
abbrev theBody : Prog (TpuEff nD τ sig (Elt F) Λ₀ .tc) PUnit :=
  cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 cc0_scoped0

/-! ## Where the signals and the copies go -/

theorem dev1 : ∀ c : Dev nD, (⟨k0_dev1 c, k0_dev1_lt c⟩ : Dev nD) = nxt 0 c := by decide +kernel
theorem dev2 : ∀ c : Dev nD, (⟨k0_dev2 c, k0_dev2_lt c⟩ : Dev nD) = nxt 1 c := by decide +kernel
theorem dev3 : ∀ c : Dev nD, (⟨k0_dev3 c, k0_dev3_lt c⟩ : Dev nD) = nxt 2 c := by decide +kernel
theorem dev4 : ∀ c : Dev nD, (⟨k0_dev4 c, k0_dev4_lt c⟩ : Dev nD) = nxt 0 c := by decide +kernel
theorem dev5 : ∀ c : Dev nD, (⟨k0_dev5 c, k0_dev5_lt c⟩ : Dev nD) = nxt 0 c := by decide +kernel
theorem dev6 : ∀ c : Dev nD, (⟨k0_dev6 c, k0_dev6_lt c⟩ : Dev nD) = nxt 1 c := by decide +kernel
theorem dev7 : ∀ c : Dev nD, (⟨k0_dev7 c, k0_dev7_lt c⟩ : Dev nD) = nxt 1 c := by decide +kernel
theorem dev8 : ∀ c : Dev nD, (⟨k0_dev8 c, k0_dev8_lt c⟩ : Dev nD) = nxt 2 c := by decide +kernel
theorem dev9 : ∀ c : Dev nD, (⟨k0_dev9 c, k0_dev9_lt c⟩ : Dev nD) = nxt 2 c := by decide +kernel
theorem dev10 : ∀ c : Dev nD, (⟨k0_dev10 c, k0_dev10_lt c⟩ : Dev nD) = nxt 0 c := by decide +kernel
theorem dev11 : ∀ c : Dev nD, (⟨k0_dev11 c, k0_dev11_lt c⟩ : Dev nD) = nxt 1 c := by decide +kernel
theorem dev12 : ∀ c : Dev nD, (⟨k0_dev12 c, k0_dev12_lt c⟩ : Dev nD) = nxt 2 c := by decide +kernel

set_option maxHeartbeats 4000000 in
/-- The run. -/
theorem run (K : GSem nD τ sig → ℕ) (c : Dev nD) (Q : S2x4x512x128.Idx → Elt F .bf16) (f : S2x4x512x128.Idx → Elt F .f32)
    (R : PUnit → sProp 𝕄) :
    iprop(runPre m K c Q f ∗ (runPost m c Q -∗ R ⟨⟩)) ⊢ runs c (theBody (F := F)) R := by
  unfold theBody
  simp only [cc0_body_eq_skeleton, cc0_body_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, semSignalWord, semWaitWord, Prog.lift, Prog.bind_op, Prog.bind_ret, Prog.pure_eq_ret, Prog.bind_assoc, wp_deviceId]
  unfold runPre
  rw [bigSep_own, bigSep_three, bigSep_three, bigSep_copies, bigSep_copies, bigSep_copies]
  iintro ⟨⟨#HC, HO, HaB, ⟨HaB2, Ha00, Hb00, Ha10, Hb10, Ha01, Hb01, Ha11, Hb11, Ha02, Hb02, Ha12, Hb12⟩, ⟨HtB0, HtB1, HtB2⟩, ⟨HtC0, HtC1, HtC2⟩,
    ⟨Hr00, Hr10, Hr01, Hr11, Hr02, Hr12⟩, ⟨Hs00, Hs10, Hs01, Hs11, Hs02, Hs12⟩, HcB, HcB2, ⟨Hc00, Hc10, Hc01, Hc11, Hc02, Hc12⟩,
    Hq, Hk, Hv, Ho, ⟨%g0, HK⟩, ⟨%g1, HV⟩⟩, HR⟩
  ihave HKs := (split_slots 0 c g0) $$ HK
  ihave HVs := (split_slots 1 c g1) $$ HV
  icases HKs with ⟨HKo, HK0, HK1, HK2⟩
  icases HVs with ⟨HVo, HV0, HV1, HV2⟩
  -- the opening signal 1 places on
  iapply (step_signal m K c _ _ R 0 (dev1 c) (oCopy c + tBar 2 c + tBar 1 c)) $$ [HO HtB0 HK0 HV0]
  · isplitr; · iexact HC
    isplitl [HO]; · iexact HO
    isplitl [HtB0]; · iexact HtB0
    isplitl [HK0] <;> iassumption
  iintro HO
  -- the opening signal 2 places on
  iapply (step_signal m K c _ _ R 1 (dev2 c) (oCopy c + tBar 2 c)) $$ [HO HtB1 HK1 HV1]
  · isplitr; · iexact HC
    isplitl [HO]; · iexact HO
    isplitl [HtB1]; · iexact HtB1
    isplitl [HK1] <;> iassumption
  iintro HO
  -- the opening signal 3 places on
  iapply (step_signal m K c _ _ R 2 (dev3 c) (oCopy c)) $$ [HO HtB2 HK2 HV2]
  · isplitr; · iexact HC
    isplitl [HO]; · iexact HO
    isplitl [HtB2]; · iexact HtB2
    isplitl [HK2] <;> iassumption
  iintro HO
  -- the wait for the neighbours' signals
  iapply (step_wait m K c _ R) $$ [HO HcB HaB]
  · isplitr; · iexact HC
    isplitl [HO]; · iexact HO
    isplitl [HcB] <;> iassumption
  iintro ⟨HO, HaB, HL2, HL1, HL0⟩
  ihave HL := (Entails.of_eq (lend_to (F := F) c 0 2 rfl)) $$ HL0
  icases HL with ⟨HnK0, HnV0, #HrK0, #HrV0, #HrB0⟩
  ihave HL := (Entails.of_eq (lend_to (F := F) c 1 1 rfl)) $$ HL1
  icases HL with ⟨HnK1, HnV1, #HrK1, #HrV1, #HrB1⟩
  ihave HL := (Entails.of_eq (lend_to (F := F) c 2 0 rfl)) $$ HL2
  icases HL with ⟨HnK2, HnV2, #HrK2, #HrV2, #HrB2⟩
  -- the own block into the own slot of both buffers
  iapply (step_stg1 c _ R _ _ (blk m 0 c)) $$ [Hk]
  · iexact Hk
  iintro Hk
  icases HKo with ⟨%f0, HKo⟩
  iapply (step_peek 0 c _ R _ f0) $$ [HKo]
  · iexact HKo
  iintro %_ HKo
  iapply (step_put m 0 c _ R (k0_pay10 (k0_pay9 (blk m 0 c))) (pay_keys (blk m 0 c)) _ _ f0) $$ [HKo]
  · iexact HKo
  iintro HKo
  iapply (step_stg2 c _ R _ _ (blk m 1 c)) $$ [Hv]
  · iexact Hv
  iintro Hv
  icases HVo with ⟨%f1, HVo⟩
  iapply (step_peek 1 c _ R _ f1) $$ [HVo]
  · iexact HVo
  iintro %_ HVo
  iapply (step_put m 1 c _ R (k0_pay11 (blk m 1 c)) (pay_values (blk m 1 c)) _ _ f1) $$ [HVo]
  · iexact HVo
  iintro HVo
  ihave HKt := (slot_thirds 0 c (pl c) (gath m 0 c)) $$ HKo
  icases HKt with ⟨HKt0, HKt1, HKt2⟩
  ihave HVt := (slot_thirds 1 c (pl c) (gath m 1 c)) $$ HVo
  icases HVt with ⟨HVt0, HVt1, HVt2⟩
  -- the copy of the keys 1 places on
  iapply (step_send m K c _ _ R 0 0 (dev4 c) (oClose c + tRcv 1 2 c + tRcv 0 2 c + tRcv 1 1 c + tRcv 0 1 c + tRcv 1 0 c) _ _ rfl rfl _ _ _ _) $$ [HO HKt0 HnK0 Hs00 Hr00]
  · isplitr; · iexact HC
    isplitl [HO]; · iexact HO
    isplitl [HKt0]; · iexact HKt0
    isplitl [HnK0]; · iexact HnK0
    isplitl [Hs00]; · iexact Hs00
    isplitl [Hr00]; · iexact Hr00
    iexact HrK0
  iintro ⟨Hd00, HO⟩
  -- the copy of the values 1 places on
  iapply (step_send m K c _ _ R 1 0 (dev5 c) (oClose c + tRcv 1 2 c + tRcv 0 2 c + tRcv 1 1 c + tRcv 0 1 c) _ _ rfl rfl _ _ _ _) $$ [HO HVt0 HnV0 Hs10 Hr10]
  · isplitr; · iexact HC
    isplitl [HO]; · iexact HO
    isplitl [HVt0]; · iexact HVt0
    isplitl [HnV0]; · iexact HnV0
    isplitl [Hs10]; · iexact Hs10
    isplitl [Hr10]; · iexact Hr10
    iexact HrV0
  iintro ⟨Hd10, HO⟩
  -- the copy of the keys 2 places on
  iapply (step_send m K c _ _ R 0 1 (dev6 c) (oClose c + tRcv 1 2 c + tRcv 0 2 c + tRcv 1 1 c) _ _ rfl rfl _ _ _ _) $$ [HO HKt1 HnK1 Hs01 Hr01]
  · isplitr; · iexact HC
    isplitl [HO]; · iexact HO
    isplitl [HKt1]; · iexact HKt1
    isplitl [HnK1]; · iexact HnK1
    isplitl [Hs01]; · iexact Hs01
    isplitl [Hr01]; · iexact Hr01
    iexact HrK1
  iintro ⟨Hd01, HO⟩
  -- the copy of the values 2 places on
  iapply (step_send m K c _ _ R 1 1 (dev7 c) (oClose c + tRcv 1 2 c + tRcv 0 2 c) _ _ rfl rfl _ _ _ _) $$ [HO HVt1 HnV1 Hs11 Hr11]
  · isplitr; · iexact HC
    isplitl [HO]; · iexact HO
    isplitl [HVt1]; · iexact HVt1
    isplitl [HnV1]; · iexact HnV1
    isplitl [Hs11]; · iexact Hs11
    isplitl [Hr11]; · iexact Hr11
    iexact HrV1
  iintro ⟨Hd11, HO⟩
  -- the copy of the keys 3 places on
  iapply (step_send m K c _ _ R 0 2 (dev8 c) (oClose c + tRcv 1 2 c) _ _ rfl rfl _ _ _ _) $$ [HO HKt2 HnK2 Hs02 Hr02]
  · isplitr; · iexact HC
    isplitl [HO]; · iexact HO
    isplitl [HKt2]; · iexact HKt2
    isplitl [HnK2]; · iexact HnK2
    isplitl [Hs02]; · iexact Hs02
    isplitl [Hr02]; · iexact Hr02
    iexact HrK2
  iintro ⟨Hd02, HO⟩
  -- the copy of the values 3 places on
  iapply (step_send m K c _ _ R 1 2 (dev9 c) (oClose c) _ _ rfl rfl _ _ _ _) $$ [HO HVt2 HnV2 Hs12 Hr12]
  · isplitr; · iexact HC
    isplitl [HO]; · iexact HO
    isplitl [HVt2]; · iexact HVt2
    isplitl [HnV2]; · iexact HnV2
    isplitl [Hs12]; · iexact Hs12
    isplitl [Hr12]; · iexact Hr12
    iexact HrV2
  iintro ⟨Hd12, HO⟩
  -- that copy's departure and the arrival from the neighbour 1 places back
  iapply (step_sent m K c _ R 0 0 _ rfl _ _ _) $$ [HO Hd00 Ha00]
  · isplitr; · iexact HC
    isplitl [HO]; · iexact HO
    isplitl [Hd00]; · iexact Hd00
    iexact Ha00
  iintro ⟨HO, Ha00, Hsent00⟩
  iapply (step_recd m K c _ R 0 0 _ rfl _ _ _) $$ [HO Hc00 Hb00]
  · isplitr; · iexact HC
    isplitl [HO]; · iexact HO
    isplitl [Hc00]; · iexact Hc00
    iexact Hb00
  iintro ⟨HO, Hb00, Hrecd00⟩
  -- that copy's departure and the arrival from the neighbour 1 places back
  iapply (step_sent m K c _ R 1 0 _ rfl _ _ _) $$ [HO Hd10 Ha10]
  · isplitr; · iexact HC
    isplitl [HO]; · iexact HO
    isplitl [Hd10]; · iexact Hd10
    iexact Ha10
  iintro ⟨HO, Ha10, Hsent10⟩
  iapply (step_recd m K c _ R 1 0 _ rfl _ _ _) $$ [HO Hc10 Hb10]
  · isplitr; · iexact HC
    isplitl [HO]; · iexact HO
    isplitl [Hc10]; · iexact Hc10
    iexact Hb10
  iintro ⟨HO, Hb10, Hrecd10⟩
  -- that copy's departure and the arrival from the neighbour 2 places back
  iapply (step_sent m K c _ R 0 1 _ rfl _ _ _) $$ [HO Hd01 Ha01]
  · isplitr; · iexact HC
    isplitl [HO]; · iexact HO
    isplitl [Hd01]; · iexact Hd01
    iexact Ha01
  iintro ⟨HO, Ha01, Hsent01⟩
  iapply (step_recd m K c _ R 0 1 _ rfl _ _ _) $$ [HO Hc01 Hb01]
  · isplitr; · iexact HC
    isplitl [HO]; · iexact HO
    isplitl [Hc01]; · iexact Hc01
    iexact Hb01
  iintro ⟨HO, Hb01, Hrecd01⟩
  -- that copy's departure and the arrival from the neighbour 2 places back
  iapply (step_sent m K c _ R 1 1 _ rfl _ _ _) $$ [HO Hd11 Ha11]
  · isplitr; · iexact HC
    isplitl [HO]; · iexact HO
    isplitl [Hd11]; · iexact Hd11
    iexact Ha11
  iintro ⟨HO, Ha11, Hsent11⟩
  iapply (step_recd m K c _ R 1 1 _ rfl _ _ _) $$ [HO Hc11 Hb11]
  · isplitr; · iexact HC
    isplitl [HO]; · iexact HO
    isplitl [Hc11]; · iexact Hc11
    iexact Hb11
  iintro ⟨HO, Hb11, Hrecd11⟩
  -- that copy's departure and the arrival from the neighbour 3 places back
  iapply (step_sent m K c _ R 0 2 _ rfl _ _ _) $$ [HO Hd02 Ha02]
  · isplitr; · iexact HC
    isplitl [HO]; · iexact HO
    isplitl [Hd02]; · iexact Hd02
    iexact Ha02
  iintro ⟨HO, Ha02, Hsent02⟩
  iapply (step_recd m K c _ R 0 2 _ rfl _ _ _) $$ [HO Hc02 Hb02]
  · isplitr; · iexact HC
    isplitl [HO]; · iexact HO
    isplitl [Hc02]; · iexact Hc02
    iexact Hb02
  iintro ⟨HO, Hb02, Hrecd02⟩
  -- that copy's departure and the arrival from the neighbour 3 places back
  iapply (step_sent m K c _ R 1 2 _ rfl _ _ _) $$ [HO Hd12 Ha12]
  · isplitr; · iexact HC
    isplitl [HO]; · iexact HO
    isplitl [Hd12]; · iexact Hd12
    iexact Ha12
  iintro ⟨HO, Ha12, Hsent12⟩
  iapply (step_recd m K c _ R 1 2 _ rfl _ _ _) $$ [HO Hc12 Hb12]
  · isplitr; · iexact HC
    isplitl [HO]; · iexact HO
    isplitl [Hc12]; · iexact Hc12
    iexact Hb12
  iintro ⟨HO, Hb12, Hrecd12⟩
  ihave HK := (join_slots m 0 c) $$ [Hsent00 Hsent01 Hsent02 Hrecd00 Hrecd01 Hrecd02]
  · isplitl [Hsent00 Hsent01 Hsent02]
    · isplitl [Hsent00]; · iexact Hsent00
      isplitl [Hsent01] <;> iassumption
    · isplitl [Hrecd00]; · iexact Hrecd00
      isplitl [Hrecd01] <;> iassumption
  ihave HV := (join_slots m 1 c) $$ [Hsent10 Hsent11 Hsent12 Hrecd10 Hrecd11 Hrecd12]
  · isplitl [Hsent10 Hsent11 Hsent12]
    · isplitl [Hsent10]; · iexact Hsent10
      isplitl [Hsent11] <;> iassumption
    · isplitl [Hrecd10]; · iexact Hrecd10
      isplitl [Hrecd11] <;> iassumption
  -- the loop
  iapply (step_attend c c _ _ _ _ Q (gath m 0 c) (gath m 1 c) f _ R) $$ [Hq HK HV Ho]
  · isplitr [Ho]
    · isplitl [Hq]; · iexact Hq
      isplitl [HK] <;> iassumption
    iexact Ho
  iintro ⟨⟨Hq, HK, HV⟩, Ho⟩
  -- the closing signal 1 places on
  iapply (step_signal2 m K c _ _ R 0 (dev10 c) (tBar2 2 c + tBar2 1 c)) $$ [HO HtC0]
  · isplitr; · iexact HC
    isplitl [HO]; · iexact HO
    isplitl [HtC0]; · iexact HtC0
    iexact HrB0
  iintro HO
  -- the closing signal 2 places on
  iapply (step_signal2 m K c _ _ R 1 (dev11 c) (tBar2 2 c)) $$ [HO HtC1]
  · isplitr; · iexact HC
    isplitl [HO]; · iexact HO
    isplitl [HtC1]; · iexact HtC1
    iexact HrB1
  iintro HO
  -- the closing signal 3 places on
  ihave HO := (Entails.of_eq (congrArg (owe (F := F) c) (zero_add (tBar2 2 c)).symm)) $$ HO
  iapply (step_signal2 m K c _ _ R 2 (dev12 c) (0)) $$ [HO HtC2]
  · isplitr; · iexact HC
    isplitl [HO]; · iexact HO
    isplitl [HtC2]; · iexact HtC2
    iexact HrB2
  iintro HO
  -- the closing wait
  iapply (step_wait2 m K c _ R) $$ [HO HcB2 HaB2]
  · isplitr; · iexact HC
    isplitl [HO]; · iexact HO
    isplitl [HcB2]; · iexact HcB2
    iexact HaB2
  iintro ⟨HO, HaB2⟩
  iapply (run_end c R)
  -- the cells are closed
  imod (close_bar m K c) $$ [HaB] with HaB
  · isplitr; · iexact HC
    iexact HaB
  imod (close_all m K c) $$ [HaB2 Ha00 Hb00 Ha10 Hb10 Ha01 Hb01 Ha11 Hb11 Ha02 Hb02 Ha12 Hb12] with Hown
  · isplitr; · iexact HC
    rw [bigSep_own]
    isplitl [HaB2]; · iexact HaB2
    isplitl [Ha00]; · iexact Ha00
    isplitl [Hb00]; · iexact Hb00
    isplitl [Ha10]; · iexact Ha10
    isplitl [Hb10]; · iexact Hb10
    isplitl [Ha01]; · iexact Ha01
    isplitl [Hb01]; · iexact Hb01
    isplitl [Ha11]; · iexact Ha11
    isplitl [Hb11]; · iexact Hb11
    isplitl [Ha02]; · iexact Ha02
    isplitl [Hb02]; · iexact Hb02
    isplitl [Ha12]; · iexact Ha12
    iexact Hb12
  imodintro
  iapply HR
  unfold runPost
  isplitl [HO]; · iexact HO
  isplitl [HaB]; · iexact HaB
  isplitl [Hown]; · iexact Hown
  isplitl [Hq]; · iexact Hq
  isplitl [Hk]; · iexact Hk
  isplitl [Hv]; · iexact Hv
  isplitl [Ho]; · iexact Ho
  isplitl [HK]; · iexact HK
  iexact HV

end Cert.KernelIdeal.Talk

end
-- ==== Proof.Region.lean ====
/-
  The kernel call as the pipeline sees it: what the four windows hold before and after, what the call keeps beside them,
  and that the body's run takes the one to the other.
-/
module

public import proofs.«01_k».proof.Proof.Run
public import Idealize.ShloMosaic.Lib.Pipeline.ValueKit
public import Idealize.ShloMosaic.Lib.Pipeline.FrameSuffix

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The call's data -/

/-- The tokens of the duties device `c` pays, and the credits its waits spend. -/
def duties (c : Dev nD) : sProp 𝕄 :=
  iprop((bigSep Finset.univ fun j : Fin 3 => dutyTok ER (barC (nxt j c)) 0 j)
    ∗ (bigSep Finset.univ fun j : Fin 3 => dutyTok ER (bar2C (nxt j c)) 0 j)
    ∗ (bigSep Finset.univ fun x : Fin 2 × Fin 3 => dutyTok ER (rcvC x.1 x.2 (nxt x.2 c)) 0 0)
    ∗ (bigSep Finset.univ fun x : Fin 2 × Fin 3 => dutyTok ER (sndC x.1 x.2 c) 0 0))
def credits (c : Dev nD) : sProp 𝕄 :=
  iprop(cred (tallyAt (barC c) () 3) ∗ cred (tallyAt (bar2C c) () 3)
    ∗ (bigSep Finset.univ fun x : Fin 2 × Fin 3 => cred (tallyAt (rcvC x.1 x.2 c) () N)))

/-- The exchange once the dormant cells are open: every cell of `c` at its first round, its duties, its credits. -/
def Xk (c : Dev nD) : sProp 𝕄 :=
  iprop((∃ K, ctx m K c ∗ atPos ER (barC c) 0 ∅ 0 ∗ (bigSep Finset.univ fun k : Kx => atPos ER ((c : Thread nD τ), osem k) 0 ∅ 0))
    ∗ duties c ∗ credits c)

/-- The two gather buffers, at contents not chosen. -/
def gathers (c : Dev nD) : sProp 𝕄 := iprop((∃ g, whole 0 c g) ∗ (∃ g, whole 1 c g))

def phiStart (c : Dev nD) : sProp 𝕄 := iprop(Xk m c ∗ gathers c ∗ ∃ r, prngReg c r)
def phiEnd (c : Dev nD) : sProp 𝕄 :=
  iprop((semVal (barC c) 0 ∗ (bigSep Finset.univ fun k : Kx => semVal ((c : Thread nD τ), osem k) 0)) ∗ gathers c ∗ ∃ r, prngReg c r)

/-- What the result window holds at the end. -/
def outF (c : Dev nD) : S2x4x512x128.Idx → Elt F .f32 := outB (V m c main_v6) (gath m 0 c) (gath m 1 c)

def dat (c : Dev nD) : Pipeline.Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun _ => outF m c
    | ⟨_ + 4, h⟩ => absurd h (Nat.not_lt.2 (Nat.le_add_left _ _))
  Φ t := if t.val = 0 then phiStart m c else phiEnd c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m
  | ⟨_ + 1, h⟩ => absurd h (Nat.not_lt.2 (Nat.le_add_left _ _))

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_then (c : Dev nD) : (dat (F := F) m c).owed t0_0.succ = 0 := by
  show (if (t0_0.succ : Fin (cfg0.N + 1)).val = 0 then O₀ c else 0) = 0; exact if_neg (by decide)
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem phi_zero (c : Dev nD) : (pdats (F := F) m 0 c).Φ 0 = phiStart m c := by
  show (if ((0 : Fin (cfg0.N + 1)).val = 0) then phiStart m c else phiEnd c) = _; exact if_pos rfl
theorem phi_first (c : Dev nD) : (dat (F := F) m c).Φ t0_0.castSucc = phiStart m c := by
  show (if (t0_0.castSucc : Fin (cfg0.N + 1)).val = 0 then phiStart m c else phiEnd c) = _; exact if_pos rfl
theorem phi_then (c : Dev nD) : (dat (F := F) m c).Φ t0_0.succ = phiEnd c := by
  show (if (t0_0.succ : Fin (cfg0.N + 1)).val = 0 then phiStart m c else phiEnd c) = _; exact if_neg (by decide)
theorem phi_last (c : Dev nD) : (pdats (F := F) m 0 c).Φ (Fin.last _) = phiEnd c := by
  show (if (Fin.last cfg0.N).val = 0 then phiStart m c else phiEnd c) = _
  rw [Fin.val_last, if_neg (by rw [show cfg0.N = 1 from N_0]; decide)]

/-! ## Each window is its array -/

theorem iblk0_eq (c : Dev nD) : iblk m c 0 t0_0 = V m c main_v6 := by
  unfold iblk; funext j; blk_simp
  refine congrArg (V m c main_v6) (funext fun a => Fin.ext ?_)
  blk_simp
  exact (congrArg (· + _) (Nat.zero_mul _)).trans (Nat.zero_add _)
theorem iblk1_eq (c : Dev nD) : iblk m c 1 t0_0 = V m c main_v10 := by
  unfold iblk; funext j; blk_simp
  refine congrArg (V m c main_v10) (funext fun a => Fin.ext ?_)
  blk_simp
  exact (congrArg (· + _) (Nat.zero_mul _)).trans (Nat.zero_add _)
theorem iblk2_eq (c : Dev nD) : iblk m c 2 t0_0 = V m c main_v14 := by
  unfold iblk; funext j; blk_simp
  refine congrArg (V m c main_v14) (funext fun a => Fin.ext ?_)
  blk_simp
  exact (congrArg (· + _) (Nat.zero_mul _)).trans (Nat.zero_add _)

theorem out_eq (c : Dev nD) : (dat m c).arrAt 3 cfg0.N = outF m c := by
  refine (dat m c).arrAt_eq_of_after_last 3 t0_0 (by decide +kernel) _ fun j => ?_
  blk_simp
  rfl

/-! ## The staging buffers -/

theorem before0 (c : Dev nD) (d) : (dat m c).before 0 t0_0 d = V m c main_v6 :=
  (((dat m c).before_in_eq_fetched 0 rfl (fun _ => rfl) (fun _ _ _ => rfl) (fun _ => rfl) t0_0 d).trans rfl).trans (iblk0_eq m c)
theorem before1 (c : Dev nD) (d) : (dat m c).before 1 t0_0 d = V m c main_v10 :=
  (((dat m c).before_in_eq_fetched 1 rfl (fun _ => rfl) (fun _ _ _ => rfl) (fun _ => rfl) t0_0 d).trans rfl).trans (iblk1_eq m c)
theorem before2 (c : Dev nD) (d) : (dat m c).before 2 t0_0 d = V m c main_v14 :=
  (((dat m c).before_in_eq_fetched 2 rfl (fun _ => rfl) (fun _ _ _ => rfl) (fun _ => rfl) t0_0 d).trans rfl).trans (iblk2_eq m c)

/-- To own a whole buffer at contents `X` is to hold it at `X`. -/
theorem owns_at (c : Dev nD) (b : Ref sig .tc) (X : b.ty.Contents (Elt F)) :
    (owns (c : Thread nD τ) (Memref.whole b) fullShare X : sProp 𝕄) = ((c : Thread nD τ).loc b ↦{fullShare} X) := by
  rw [owns_whole_eq (c : Thread nD τ) b fullShare X]
  have h₁ : iprop(∃ f, ⌜f = X⌝ ∗ (c : Thread nD τ).loc b ↦{fullShare} f) ⊢ ((c : Thread nD τ).loc b ↦{fullShare} X : sProp 𝕄) := by
    iintro ⟨%f, %h, H⟩; subst h; iexact H
  have h₂ : ((c : Thread nD τ).loc b ↦{fullShare} X : sProp 𝕄) ⊢ iprop(∃ f, ⌜f = X⌝ ∗ (c : Thread nD τ).loc b ↦{fullShare} f) := by
    iintro H; iexists X; isplitr
    · ipureintro; rfl
    iexact H
  exact BI.equiv_iff.mp ⟨h₁, h₂⟩

theorem owns0 (c : Dev nD) (X) : (owns (c : Thread nD τ) ((cfg0.win 0).stage (cfg0.slots t0_0 0)) fullShare X : sProp 𝕄) = stg0 c X :=
  owns_at c cc0_stg0_0 X
theorem owns1 (c : Dev nD) (X) : (owns (c : Thread nD τ) ((cfg0.win 1).stage (cfg0.slots t0_0 1)) fullShare X : sProp 𝕄) = stg1 c X :=
  owns_at c cc0_stg1_0 X
theorem owns2 (c : Dev nD) (X) : (owns (c : Thread nD τ) ((cfg0.win 2).stage (cfg0.slots t0_0 2)) fullShare X : sProp 𝕄) = stg2 c X :=
  owns_at c cc0_stg2_0 X
theorem owns3 (c : Dev nD) (X) : (owns (c : Thread nD τ) ((cfg0.win 3).stage (cfg0.slots t0_0 3)) fullShare X : sProp 𝕄) = stg3 c X :=
  owns_at c cc0_stg3_0 X

/-- What the body finds staged. -/
theorem staged_in (c : Dev nD) :
    iprop((∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d)))
    ⊢ (iprop(stg0 c (V m c main_v6) ∗ stg1 c (blk m 0 c) ∗ stg2 c (blk m 1 c) ∗ ∃ f, stg3 c f) : sProp 𝕄) := by
  iintro ⟨⟨%d0, H0⟩, ⟨%d1, H1⟩, ⟨%d2, H2⟩, ⟨%d3, H3⟩⟩
  isplitl [H0]; · iapply (Entails.of_eq ((owns0 c _).trans (congrArg (stg0 c) (before0 m c d0)))) $$ H0
  isplitl [H1]; · iapply (Entails.of_eq ((owns1 c _).trans (congrArg (stg1 c) (before1 m c d1)))) $$ H1
  isplitl [H2]; · iapply (Entails.of_eq ((owns2 c _).trans (congrArg (stg2 c) (before2 m c d2)))) $$ H2
  iexists _; iapply (Entails.of_eq (owns3 c _)) $$ H3

theorem stg1_after (c : Dev nD) : (stg1 c (blk m 0 c) : sProp 𝕄) ⊢ stg1 c ((dat m c).after 1 t0_0) :=
  Entails.of_eq (congrArg (stg1 c) (iblk1_eq m c).symm)
theorem stg2_after (c : Dev nD) : (stg2 c (blk m 1 c) : sProp 𝕄) ⊢ stg2 c ((dat m c).after 2 t0_0) :=
  Entails.of_eq (congrArg (stg2 c) (iblk2_eq m c).symm)

/-- What it leaves. -/
theorem staged_out (c : Dev nD) :
    (iprop(stg0 c (V m c main_v6) ∗ stg1 c (blk m 0 c) ∗ stg2 c (blk m 1 c) ∗ stg3 c (outF m c)) : sProp 𝕄)
    ⊢ iprop(owns (c : Thread nD τ) ((cfg0.win 0).stage (cfg0.slots t0_0 0)) fullShare ((dat m c).after 0 t0_0)
      ∗ owns (c : Thread nD τ) ((cfg0.win 1).stage (cfg0.slots t0_0 1)) fullShare ((dat m c).after 1 t0_0)
      ∗ owns (c : Thread nD τ) ((cfg0.win 2).stage (cfg0.slots t0_0 2)) fullShare ((dat m c).after 2 t0_0)
      ∗ owns (c : Thread nD τ) ((cfg0.win 3).stage (cfg0.slots t0_0 3)) fullShare ((dat m c).after 3 t0_0)) := by
  rw [owns0, owns1, owns2, owns3]
  iintro ⟨H0, H1, H2, H3⟩
  isplitl [H0]; · iapply (Entails.of_eq (congrArg (stg0 c) (iblk0_eq m c).symm)) $$ H0
  isplitl [H1]; · iapply (stg1_after m c) $$ H1
  isplitl [H2]; · iapply (stg2_after m c) $$ H2
  iexact H3

theorem owesAt_intro (c : Dev nD) (t : Fin (cfg0.N + 1)) (O : CellTallies nD τ sig Unit) (h0 : (dat m c).owed t = O) :
    owe c O ⊢ ((dat m c).owesAt () t : sProp 𝕄) := by
  unfold Pipeline.Dat.owesAt Pipeline.owesWithin Pipeline.Dat.bound owe
  rw [h0]
  iintro ⟨%W, HO⟩; iexists W; isplitr
  · ipureintro; exact fun _ _ => Or.inl trivial
  iexact HO
theorem owesAt_elim (c : Dev nD) (t : Fin (cfg0.N + 1)) (O : CellTallies nD τ sig Unit) (h0 : (dat m c).owed t = O) :
    ((dat m c).owesAt () t : sProp 𝕄) ⊢ owe c O := by
  unfold Pipeline.Dat.owesAt Pipeline.owesWithin owe
  rw [h0]
  iintro ⟨%W, -, HO⟩; iexists W; iexact HO

/-! ## The body's run is the call's -/

theorem body_is (t : Fin cfg0.N) : defs₀ .tc cfg0.body (cfg0.bodyArgs t (cfg0.slots t)) = theBody (F := F) := by
  obtain rfl := fin_N0 t; rfl

theorem body (c : Dev nD) : Pipeline.BodyObligation (dat (F := F) m c) defs₀ 𝒱₀ () Set.univ := fun t => by
  obtain rfl := fin_N0 t
  rw [bigSep_W0, bigSep_W0, body_is, phi_first, phi_then]
  change iprop(phiStart m c ∗ (dat m c).owesAt () t0_0.castSucc ∗ _) ⊢ runs c theBody _
  unfold phiStart Xk gathers duties credits
  iintro ⟨⟨⟨⟨%K, HC, HaB, Ha⟩, ⟨Hd1, Hd2, Hd3, Hd4⟩, ⟨Hc1, Hc2, Hc3⟩⟩, ⟨Hg0, Hg1⟩, Hp⟩, HO, HW⟩
  ihave HS := (staged_in m c) $$ HW
  icases HS with ⟨H0, H1, H2, ⟨%f, H3⟩⟩
  iapply (run m K c (V m c main_v6) f)
  isplitr [Hp]
  · unfold runPre
    isplitl [HC]; · iexact HC
    isplitl [HO]; · iapply (owesAt_elim m c _ (O₀ c) (owed_first m c)) $$ HO
    isplitl [HaB]; · iexact HaB
    isplitl [Ha]; · iexact Ha
    isplitl [Hd1]; · iexact Hd1
    isplitl [Hd2]; · iexact Hd2
    isplitl [Hd3]; · iexact Hd3
    isplitl [Hd4]; · iexact Hd4
    isplitl [Hc1]; · iexact Hc1
    isplitl [Hc2]; · iexact Hc2
    isplitl [Hc3]; · iexact Hc3
    isplitl [H0]; · iexact H0
    isplitl [H1]; · iexact H1
    isplitl [H2]; · iexact H2
    isplitl [H3]; · iexact H3
    isplitl [Hg0] <;> iassumption
  unfold runPost
  iintro ⟨HO, Hb, Hs, H0, H1, H2, H3, Hg0, Hg1⟩
  isplitl [Hb Hs Hg0 Hg1 Hp]
  · unfold phiEnd gathers
    isplitl [Hb Hs]
    · isplitl [Hb] <;> iassumption
    isplitl [Hg0 Hg1]
    · isplitl [Hg0]
      · iexists _; iexact Hg0
      · iexists _; iexact Hg1
    iexact Hp
  isplitl [HO]; · iapply (owesAt_intro m c _ 0 (owed_then m c)) $$ HO
  iapply (staged_out m c)
  isplitl [H0]; · iexact H0
  isplitl [H1]; · iexact H1
  isplitl [H2]; · iexact H2
  iexact H3

end Cert.KernelIdeal.Talk

end
-- ==== Proof.Segs.lean ====
/-
  The program as three segments: the host's packing of queries, keys and values, the kernel call, the host's unpacking
  of the result. Across all three every device carries its part of the exchange.
-/
module

public import proofs.«01_k».proof.Proof.Region
public import Idealize.ShloMosaic.Lib.Pipeline.RegionTalk

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The unscoped buffers, and those of them that are no window's array. -/
abbrev bufs : Finset (DevRef τ sig) := Pipeline.ucRefs τ sig
abbrev arrs : Finset (DevRef τ sig) := Pipeline.arrRefs (τ := τ) spec0
abbrev rest : Finset (DevRef τ sig) := bufs \ arrs

theorem arrs_sub : arrs ⊆ bufs := Pipeline.arrRefs_sub_ucRefs spec0 winFacts0.arr_unscoped

/-- Device `c`'s buffers after the kernel call: the result array at what the call wrote, all else as it was. -/
def V1 (c : Dev nD) : Valuation τ sig (Elt F) := Pipeline.withArrays spec0 c (V0 m c) fun w => (dat m c).arrAt w cfg0.N

theorem V1_arr (c : Dev nD) (w : Fin 4) : V1 m c (Proc.devRef .tc (Pipeline.arrRef spec0 w)) = (dat m c).arrAt w cfg0.N :=
  Pipeline.withArrays_arr spec0 winFacts0.arr_inj c (V0 m c) _ w

theorem V1_rest (c : Dev nD) (b : DevRef τ sig) (hb : b ∈ rest) : V1 m c b = V0 m c b := by
  obtain ⟨h, hn⟩ := Finset.mem_sdiff.mp hb
  obtain ⟨r, -, rfl⟩ := Finset.mem_map.mp (Finset.mem_filter.mp h).1
  exact Pipeline.withArrays_of_ne spec0 c (V0 m c) _ r fun w hw =>
    hn (Finset.mem_map.mpr ⟨r, Finset.mem_image.mpr ⟨w, Finset.mem_univ w, hw⟩, rfl⟩)

theorem sep_both {I : Type} [DecidableEq I] {s : Finset I} {P Q : I → sProp 𝕄} :
    iprop(bigSep s P ∗ bigSep s Q) ⊢ bigSep s fun i => iprop(P i ∗ Q i) := Entails.of_eq (bigSep_sep s P Q).symm
theorem sep_parts {I : Type} [DecidableEq I] {s : Finset I} {P Q : I → sProp 𝕄} :
    (bigSep s fun i => iprop(P i ∗ Q i)) ⊢ iprop(bigSep s P ∗ bigSep s Q) := Entails.of_eq (bigSep_sep s P Q)

/-! ## What a device carries to the kernel call and from it -/

/-- From the launch: the records, the barrier's first round, the dormant cells not yet open, the duties, the credits. -/
def Tk (c : Dev nD) : sProp 𝕄 :=
  iprop((∃ K, records m K ∗ atPos ER (barC c) 0 ∅ 0 ∗ (bigSep Finset.univ fun k : Kx => openTok ER ((c : Thread nD τ), osem k)))
    ∗ duties c ∗ credits c)
def Yk (c : Dev nD) : sProp 𝕄 := semVal (barC c) 0

def R0 (c : Dev nD) : sProp 𝕄 := iprop(Tk m c ∗ (∃ r, prngReg c r) ∗ owe c (O₀ c))
def R1 (c : Dev nD) : sProp 𝕄 := iprop(Yk c ∗ owe c 0)

/-- The dormant cells opened one by one. -/
theorem open_one (K : GSem nD τ sig → ℕ) (c : Dev nD) (k : Kx) :
    iprop(records m K ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := by
  iintro ⟨#HR, Ho, Hs⟩
  ihave HI := (inv_sc m K c k) $$ HR
  imod (Rounds.cell_open ER (Rd m) (g := ((c : Thread nD τ), osem k)) (Set.mem_univ (K ((c : Thread nD τ), osem k)))) $$ [HI Ho Hs] with ⟨Ha, Hr⟩
  · isplitl [HI]; · iexact HI
    isplitl [Ho] <;> iassumption
  imodintro
  isplitl [Ha] <;> iassumption

theorem open_all (K : GSem nD τ sig → ℕ) (c : Dev nD) :
    iprop(records m K ∗ bigSep Finset.univ (fun k : Kx => iprop(openTok ER ((c : Thread nD τ), osem k) ∗ semVal ((c : Thread nD τ), osem k) 0)))
      ⊢ (|={Set.univ}=> bigSep Finset.univ (fun k : Kx => iprop(atPos ER ((c : Thread nD τ), osem k) 0 ∅ 0 ∗ reached ER ((c : Thread nD τ), osem k) 0)) : sProp 𝕄) :=
  (bigSep_with_persistent (R := records m K) fun k _ => open_one m K c k).trans (bigSep_fupd _ _)

theorem opens (c : Dev nD) : iprop(Tk m c ∗ Pipeline.ownSems0 osem c ∗ levAts L lv) ⊢ (|={Set.univ}=> Xk m c : sProp 𝕄) := by
  unfold Tk Xk Pipeline.ownSems0 ctx
  iintro ⟨⟨⟨%K, #HR, HaB, Ho⟩, Hd, Hc⟩, Hs, #HL⟩
  imod (open_all m K c) $$ [Ho Hs] with Ha
  · isplitr; · iexact HR
    iapply sep_both
    isplitl [Ho] <;> iassumption
  ihave Ha := sep_parts $$ Ha
  icases Ha with ⟨Ha, #Hr⟩
  imodintro
  isplitr [Hd Hc]
  · iexists K
    isplitr
    · isplitr; · iexact HR
      isplitr; · iexact HL
      iexact Hr
    isplitl [HaB] <;> iassumption
  isplitl [Hd] <;> iassumption

/-! ## The segments -/

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

def seg0 : ℍ := Pipeline.HostSeg.ofOps _ _ _ _ _ bufs hostOps0
  (fun op h => Pipeline.sub_ucRefs op ((List.forall_iff_forall_mem.mp hostOps0_sub) op h))
  (fun op h => (List.forall_iff_forall_mem.mp hostOps0_fresh) op h) (fun c b => m (c, b)) (R0 m)
def seg1 : ℍ := Pipeline.HostSeg.ofOps _ _ _ _ _ bufs hostOps1
  (fun op h => Pipeline.sub_ucRefs op ((List.forall_iff_forall_mem.mp hostOps1_sub) op h))
  (fun op h => (List.forall_iff_forall_mem.mp hostOps1_fresh) op h) (V1 m) R1

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact above_all c g i h
  · exact absurd h (Nat.lt_irrefl 0)

theorem stage_lv (c : Dev nD) (w : Fin 4) (s : Fin (spec0 w).nbuf) : lv ((c : Thread nD τ), .dma ((spec0 w).sem s)) () ≤ 0 := by
  have h : ∀ (w : Fin 4) (s : Fin (spec0 w).nbuf), useOf (.dma ((spec0 w).sem s)) = .other := by decide
  unfold lv; rw [h w s]

theorem gathers_eq (c : Dev nD) :
    (Pipeline.scopedRest (Ix := Unit) (Name := ℕ) (U := UU) (Lvl := ℕ) (Val := Elt F) spec0 c : sProp 𝕄) = gathers c :=
  scopedRest0_eq c

theorem enters (c : Dev nD) : iprop(Pipeline.scopedRest (Pipeline.pin (pcfgs (F := F)) adm 0).spec c ∗ (∃ r, prngReg c r)
      ∗ StableHlo.held (c.tc : Thread nD τ) ∅ (V0 m c) ∗ Xk m c) ⊢ (pdats m 0 c).Φ 0 := by
  rw [phi_zero]
  unfold phiStart
  iintro ⟨Hs, Hp, -, HX⟩
  isplitl [HX]; · iexact HX
  isplitl [Hs]; · iapply (Entails.of_eq (gathers_eq c)) $$ Hs
  iexact Hp

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V1 m c) ∗ Pipeline.ownSems0 osem c ∗ Yk c) := by
  rw [phi_last]
  unfold phiEnd Yk Pipeline.ownSems0 StableHlo.held
  rw [bigSep_empty]
  iintro ⟨⟨Hb, Hs⟩, Hg, Hp⟩
  isplitl [Hg]; · iapply (Entails.of_eq (gathers_eq c).symm) $$ Hg
  isplitl [Hp]; · iexact Hp
  isplitr; · iempintro
  isplitl [Hs] <;> iassumption

set_option backward.isDefEq.respectTransparency.types false in
def reg : ℝ𝕊 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body m c).loose)
    (fun _ => 0) O₀ (fun c => (owed_zero m c).trans (zero_add _).symm) (owed_last m) (fun _ => rfl) (fun c w => (dat m c).share_full (fun _ => rfl) w)
    (V0 m) (V1 m) (fun c b hb => V1_rest m c b (Finset.mem_sdiff.mp hb).1)
    (Tk m) Yk (Xk m) Yk (opens m) (enters m) (leaves m)
    (fun c => by iintro H; imodintro; iexact H)
    (fun _ => 0)
    ⟨fun c w s => by rw [L_tc]; exact Finset.mem_singleton_self _, fun c w s => stage_lv c w s, fun c t g i h => cut m c t g i h⟩
    (fun _ => iprop(emp))
    (fun _ _ => rfl) (fun c w => (V1_arr m c w).symm)

theorem held_bufs (c : Dev nD) (W : Valuation τ sig (Elt F)) : (StableHlo.held (c.tc : Thread nD τ) bufs W : sProp 𝕄)
    = iprop(StableHlo.held (c.tc : Thread nD τ) arrs W ∗ StableHlo.held (c.tc : Thread nD τ) rest W) :=
  StableHlo.held_sub_split (c.tc : Thread nD τ) arrs_sub W

theorem reg_pre (c : Dev nD) : (seg0 m).post c ⊢ (reg m).pre c := by
  show iprop(StableHlo.held (c.tc : Thread nD τ) bufs (V0 m c) ∗ R0 m c)
    ⊢ iprop(StableHlo.held (c.tc : Thread nD τ) arrs (V0 m c) ∗ (∃ r, prngReg c r)
    ∗ (StableHlo.held (c.tc : Thread nD τ) rest (V0 m c) ∗ emp) ∗ Tk m c ∗ ∃ Wd, owes (c : Thread nD τ) (0 + O₀ c) Wd)
  rw [held_bufs, zero_add]
  unfold R0 owe
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ (seg1 m).pre c := by
  show iprop(StableHlo.held (c.tc : Thread nD τ) arrs (V1 m c) ∗ (∃ r, prngReg c r)
    ∗ (StableHlo.held (c.tc : Thread nD τ) rest (V1 m c) ∗ emp) ∗ Yk c ∗ ∃ Wd, owes (c : Thread nD τ) (0 : CellTallies nD τ sig Unit) Wd)
    ⊢ iprop(StableHlo.held (c.tc : Thread nD τ) bufs (V1 m c) ∗ R1 c)
  rw [held_bufs]
  unfold R1 owe
  iintro ⟨Ha, -, ⟨Hr, -⟩, HY, HO⟩
  isplitl [Ha Hr]
  · isplitl [Ha] <;> iassumption
  isplitl [HY] <;> iassumption

/-- @main as the list. -/
def segs : List (Pipeline.Seg (pcfgs (F := F)) adm (pdats m) () defs₀ 𝒱₀ L lv) :=
  [.host (seg0 m), .region (reg m), .host (seg1 m)]

theorem main_eq (c : Dev nD) : main (F := F) c = Pipeline.Seg.run (segs m) :=
  main_segs adm (pdats m) () 𝒱₀ L lv (seg0 m) (seg1 m) (reg m) rfl rfl c

end Cert.KernelIdeal.Talk

end
-- ==== Proof.Launch.lean ====
/-
  The launch: the exchange's cells and tokens made at once for the whole mesh, the credits every device's dues give it, and
  both dealt to the devices.
-/
module

public import proofs.«01_k».proof.Proof.Segs

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-! ## The tokens -/

/-- The duties of one device's cells: `inl (i, j)` the duty `j` of its opening (`i = 0`) and closing barrier, `inr (i, b, j)`
    the one duty of a send (`i = 0`) and of a receive cell. -/
abbrev Ky : Type := (Fin 2 × Fin 3) ⊕ (Fin 2 × Fin 2 × Fin 3)
def ksem : Ky → SemLoc sig
  | .inl (0, _) => .reg barS
  | .inl (1, _) => .reg bar2S
  | .inr (0, b, j) => .dma (sS b j)
  | .inr (1, b, j) => .dma (rS b j)
def kduty : Ky → Fin 3
  | .inl (_, j) => j
  | .inr _ => 0

theorem key_inj : Function.Injective fun k : Ky => (ksem k, kduty k) := by decide
def talkToks : Finset (GSem nD τ sig × ℕ × Fin 3) :=
  Finset.univ.map ⟨fun ck : Dev nD × Ky => (((ck.1 : Thread nD τ), ksem ck.2), 0, kduty ck.2), fun _ _ h =>
    Prod.ext (congrArg (fun t : GSem nD τ sig × ℕ × Fin 3 => t.1.1.1) h)
      (key_inj (Prod.ext (congrArg (fun t : GSem nD τ sig × ℕ × Fin 3 => t.1.2) h) (congrArg (fun t : GSem nD τ sig × ℕ × Fin 3 => t.2.2) h)))⟩

/-- The tokens of one device's own cells. -/
def toks (c : Dev nD) : sProp 𝕄 :=
  iprop((bigSep Finset.univ fun j : Fin 3 => dutyTok ER (barC c) 0 j)
    ∗ (bigSep Finset.univ fun j : Fin 3 => dutyTok ER (bar2C c) 0 j)
    ∗ (bigSep Finset.univ fun x : Fin 2 × Fin 3 => dutyTok ER (rcvC x.1 x.2 c) 0 0)
    ∗ (bigSep Finset.univ fun x : Fin 2 × Fin 3 => dutyTok ER (sndC x.1 x.2 c) 0 0))

theorem toks_one (c : Dev nD) :
    (bigSep Finset.univ fun k : Ky => (dutyTok ER ((c : Thread nD τ), ksem k) 0 (kduty k) : sProp 𝕄)) ⊢ toks c := by
  rw [bigSep_univ_sum, bigSep_univ_prod, bigSep_univ_prod (α := Fin 2) (β := Fin 2 × Fin 3), bigSep_fin_two, bigSep_fin_two]
  show iprop(((bigSep Finset.univ fun j : Fin 3 => dutyTok ER (barC c) 0 j) ∗ (bigSep Finset.univ fun j : Fin 3 => dutyTok ER (bar2C c) 0 j))
    ∗ ((bigSep Finset.univ fun x : Fin 2 × Fin 3 => dutyTok ER (sndC x.1 x.2 c) 0 0) ∗ (bigSep Finset.univ fun x : Fin 2 × Fin 3 => dutyTok ER (rcvC x.1 x.2 c) 0 0))) ⊢ _
  unfold toks
  iintro ⟨⟨H1, H2⟩, ⟨H3, H4⟩⟩
  isplitl [H1]; · iexact H1
  isplitl [H2]; · iexact H2
  isplitl [H4] <;> iassumption

theorem toks_dealt : (bigSep talkToks fun x => (dutyTok ER x.1 x.2.1 x.2.2 : sProp 𝕄)) ⊢ bigSep Finset.univ fun c : Dev nD => toks c := by
  unfold talkToks; rw [bigSep_map, bigSep_univ_prod]
  exact bigSep_mono fun c _ => toks_one c

/-- A double family, the other way about. -/
theorem crossed {I J : Type} [Fintype I] [Fintype J] (P : I → J → sProp 𝕄) :
    (bigSep Finset.univ fun i : I => bigSep Finset.univ fun j : J => P i j) = bigSep Finset.univ fun j : J => bigSep Finset.univ fun i : I => P i j := by
  rw [← bigSep_univ_prod (fun x : I × J => P x.1 x.2), bigSep_univ_equiv (Equiv.prodComm J I), bigSep_univ_prod]; rfl

/-- A family with a member per device and offset, each handed that many places back. -/
theorem around {J : Type} [Fintype J] [DecidableEq J] (o : J → Fin 3) (P : Dev nD → J → sProp 𝕄) :
    (bigSep Finset.univ fun c : Dev nD => bigSep Finset.univ fun j : J => P c j)
      = bigSep Finset.univ fun c : Dev nD => bigSep Finset.univ fun j : J => P (nxt (o j) c) j := by
  rw [crossed, crossed fun c j => P (nxt (o j) c) j]
  exact bigSep_congr fun j _ => bigSep_univ_equiv (ring (o j)) fun c => P c j

/-- Every device's duties, out of every device's tokens. -/
theorem toks_around : (bigSep Finset.univ fun c : Dev nD => (toks c : sProp 𝕄)) ⊢ bigSep Finset.univ fun c : Dev nD => duties c := by
  unfold toks duties
  rw [bigSep_sep', bigSep_sep', bigSep_sep', bigSep_sep', bigSep_sep', bigSep_sep',
    around (fun j : Fin 3 => j) (fun c j => dutyTok ER (barC c) 0 j), around (fun j : Fin 3 => j) (fun c j => dutyTok ER (bar2C c) 0 j),
    around (fun x : Fin 2 × Fin 3 => x.2) (fun c x => dutyTok ER (rcvC x.1 x.2 c) 0 0)]

/-! ## The credits -/

/-- Every device owes `k` on semaphore `sm` of the device at offset `j`: so every device has the credit of `k` on its own. -/
theorem credit_one (sm : SemLoc sig) (j : Fin 3) (k : ℕ) (c : Dev nD) :
    (Pipeline.launchCred (fun d => (tallyAt ((nxt j d : Thread nD τ), sm) () k : CellTallies nD τ sig Unit)) c : sProp 𝕄)
      ⊢ cred (tallyAt ((c : Thread nD τ), sm) () k) := by
  have e : tallyOn ((c : Thread nD τ), sm) (launchCredit (Pipeline.owing fun d => (tallyAt ((nxt j d : Thread nD τ), sm) () k : CellTallies nD τ sig Unit)) 0 ((c : Thread nD τ), sm))
      = (tallyAt ((c : Thread nD τ), sm) () k : CellTallies nD τ sig Unit) := by
    unfold tallyAt; refine congrArg _ (Finsupp.ext fun u => ?_); cases u
    rw [Pipeline.launchCredit_owing, Finsupp.single_eq_same, Finset.sum_eq_single (prv j c)]
    · rw [nxt_prv]; exact (tallyAt_apply _ _ _ _ _).trans (if_pos ⟨rfl, rfl⟩)
    · intro d _ hd
      refine (tallyAt_apply _ _ _ _ _).trans (if_neg fun h => hd ?_)
      have h1 : c = nxt j d := congrArg (fun g : GSem nD τ sig => g.1.1) h.1
      rw [h1, prv_nxt]
    · intro h; exact absurd (Finset.mem_univ _) h
  unfold Pipeline.launchCred
  rw [← e]
  exact bigSep_elim (Φ := fun sm : SemLoc sig => cred (tallyOn ((c : Thread nD τ), sm) (launchCredit (Pipeline.owing _) 0 ((c : Thread nD τ), sm)))) (Finset.mem_univ sm)

theorem cred_two (a b : CellTallies nD τ sig Unit) : iprop(cred a ∗ cred b) ⊢ (cred (a + b) : sProp 𝕄) := (cred_add a b).2

/-- Three units of one cell. -/
theorem cred_three (g : GSem nD τ sig) :
    iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by
    rw [tallyAt_add, tallyAt_add]]
  iintro ⟨H1, H2, H3⟩
  iapply (cred_two (F := F) (tallyAt g () 1) (tallyAt g () 1 + tallyAt g () 1))
  isplitl [H1]; · iexact H1
  iapply (cred_two (F := F) (tallyAt g () 1) (tallyAt g () 1))
  isplitl [H2] <;> iassumption

theorem creds (c : Dev nD) : (Pipeline.launchCred O₀ c : sProp 𝕄) ⊢ credits c := by
  show Pipeline.launchCred (fun d => tBar2 2 d + tBar2 1 d + tBar2 0 d + tRcv 1 2 d + tRcv 0 2 d + tRcv 1 1 d + tRcv 0 1 d + tRcv 1 0 d + tRcv 0 0 d
    + tBar 2 d + tBar 1 d + tBar 0 d) c ⊢ _
  iterate 11 rw [Pipeline.launchCred_add]
  unfold credits
  rw [bigSep_copies]
  iintro ⟨⟨⟨⟨⟨⟨⟨⟨⟨⟨⟨C2, C1⟩, C0⟩, R5⟩, R4⟩, R3⟩, R2⟩, R1⟩, R0⟩, B2⟩, B1⟩, B0⟩
  isplitl [B2 B1 B0]
  · iapply (cred_three (F := F) (barC c))
    isplitl [B2]; · iapply (credit_one (F := F) (.reg barS) 2 1 c) $$ B2
    isplitl [B1]; · iapply (credit_one (F := F) (.reg barS) 1 1 c) $$ B1
    iapply (credit_one (F := F) (.reg barS) 0 1 c) $$ B0
  isplitl [C2 C1 C0]
  · iapply (cred_three (F := F) (bar2C c))
    isplitl [C2]; · iapply (credit_one (F := F) (.reg bar2S) 2 1 c) $$ C2
    isplitl [C1]; · iapply (credit_one (F := F) (.reg bar2S) 1 1 c) $$ C1
    iapply (credit_one (F := F) (.reg bar2S) 0 1 c) $$ C0
  isplitl [R0]; · iapply (credit_one (F := F) (.dma (rS 0 0)) 0 N c) $$ R0
  isplitl [R1]; · iapply (credit_one (F := F) (.dma (rS 1 0)) 0 N c) $$ R1
  isplitl [R2]; · iapply (credit_one (F := F) (.dma (rS 0 1)) 1 N c) $$ R2
  isplitl [R3]; · iapply (credit_one (F := F) (.dma (rS 1 1)) 1 N c) $$ R3
  isplitl [R4]; · iapply (credit_one (F := F) (.dma (rS 0 2)) 2 N c) $$ R4
  iapply (credit_one (F := F) (.dma (rS 1 2)) 2 N c) $$ R5

/-! ## The dealing -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The element the launch starts from: the pipeline's own part, and the exchange's. -/
def u₀ : UU :=
  (initOf (Pipeline.cells (Pipeline.pin (pcfgs (F := F)) adm) cellOf_inj) (Pipeline.launchToks (Pipeline.pin (pcfgs (F := F)) adm) cellOf_inj),
    launchOf barCells scCells talkToks)

/-- The exchange's part, kept by device 0 until it is dealt. -/
def G (c : Dev nD) : sProp 𝕄 := if c = 0 then BI.own (ER (launchOf barCells scCells talkToks)) else iprop(emp)
theorem G_all : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What device `c` takes of it. -/
def share (c : Dev nD) : sProp 𝕄 :=
  iprop(atPos ER (barC c) 0 ∅ 0 ∗ (bigSep Finset.univ fun k : Kx => openTok ER ((c : Thread nD τ), osem k)) ∗ duties c)

/-- What device `c` starts with besides. -/
def own (c : Dev nD) : sProp 𝕄 :=
  iprop(StableHlo.held (c.tc : Thread nD τ) bufs (fun b => m (c, b)) ∗ credits c ∗ owes (c : Thread nD τ) (O₀ c) ∅ ∗ ∃ r, prngReg c r)

abbrev T₀ (c : Dev nD) : sProp 𝕄 := iprop(StableHlo.held (c.tc : Thread nD τ) bufs (fun b => m (c, b)) ∗ R0 m c)

theorem start (κ : GSem nD τ sig → ℕ) (c : Dev nD) : iprop(records m κ ∗ (share c ∗ own m c)) ⊢ T₀ m c := by
  unfold share own T₀ R0 Tk owe
  iintro ⟨#HR, ⟨Ha, Ho, Hd⟩, Hh, Hc, HO, Hp⟩
  isplitl [Hh]; · iexact Hh
  isplitl [Ha Ho Hd Hc]
  · isplitl [Ha Ho]
    · iexists κ
      isplitr; · iexact HR
      isplitl [Ha] <;> iassumption
    isplitl [Hd] <;> iassumption
  isplitl [Hp]; · iexact Hp
  iexists ∅; iexact HO

theorem bar_only (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem own_intro (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(own m c ∗ (semVal (barC c) 0 ∗ G c)) : sProp 𝕄) := by
  rw [show unscopedBufs c (fun b => m ((c : Thread nD τ).loc b)) = StableHlo.held (c.tc : Thread nD τ) bufs (fun b => m (c, b)) from
    Pipeline.unscopedBufs_held c fun b => m (c, b), bar_only]
  unfold own
  iintro ⟨Hh, Hb, HO, Hc, Hp, HG⟩
  isplitr [Hb HG]
  · isplitl [Hh]; · iexact Hh
    isplitl [Hc]; · iapply (creds (F := F) c) $$ Hc
    isplitl [HO]; · iexact HO
    iexists (ρ c); iexact Hp
  isplitl [Hb] <;> iassumption

theorem own_all : (bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c))
    ⊢ (bigSep Finset.univ fun c : Dev nD => iprop(own m c ∗ (semVal (barC c) 0 ∗ G c)) : sProp 𝕄) :=
  bigSep_mono fun c _ => own_intro m ρ c

theorem bars_cells : bigSep Finset.univ (fun c : Dev nD => (semVal (barC c) 0 : sProp 𝕄)) ⊢ bigSep barCells (fun g => (semVal g 0 : sProp 𝕄)) :=
  Entails.of_eq (bigSep_map (s := Finset.univ) barEmb (Φ := fun g : GSem nD τ sig => (semVal g 0 : sProp 𝕄))).symm
theorem bars_at : bigSep barCells (fun g => (atPos ER g 0 ∅ 0 : sProp 𝕄)) ⊢ bigSep Finset.univ (fun c : Dev nD => (atPos ER (barC c) 0 ∅ 0 : sProp 𝕄)) :=
  Entails.of_eq (bigSep_map (s := Finset.univ) barEmb (Φ := fun g : GSem nD τ sig => (atPos ER g 0 ∅ 0 : sProp 𝕄)))
theorem rights : bigSep scCells (fun g => (openTok ER g : sProp 𝕄))
    ⊢ bigSep Finset.univ (fun c : Dev nD => bigSep Finset.univ fun k : Kx => openTok ER ((c : Thread nD τ), osem k)) :=
  Entails.of_eq (by rw [bigSep_map, bigSep_univ_prod]; rfl)

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (own_all m ρ) $$ H
  ihave H := sep_parts $$ H; icases H with ⟨HB, H⟩
  ihave H := sep_parts $$ H; icases H with ⟨Hv, HG⟩
  ihave Hu := (Entails.of_eq (G_all (F := F))) $$ HG
  imod (Rounds.fund_launch ER (Rd m) disjoint_cells (fun g _ h => h) talkToks) $$ [Hv Hu] with ⟨%κ, -, #Hinv, #Hr, Hat, Hopen, Htok⟩
  · isplitl [Hv]
    · iapply bars_cells $$ Hv
    · iexact Hu
  imodintro
  iapply (bigSep_with_persistent (R := records m κ) (Φ := fun c => iprop(share c ∗ own m c)) fun c _ => start m κ c)
  isplitr
  · unfold records
    isplitr; · iexact Hinv
    iexact Hr
  iapply sep_both
  isplitr [HB]
  · unfold share
    iapply sep_both; isplitl [Hat]; · iapply bars_at $$ Hat
    iapply sep_both; isplitl [Hopen]; · iapply rights $$ Hopen
    iapply (toks_around (F := F))
    iapply (toks_dealt (F := F)) $$ Htok
  · iexact HB

end Cert.KernelIdeal.Talk

end
-- ==== Proof.Main.lean ====
/-
  The whole program run: what the arguments and the result hold at the end, and that every semaphore is back at zero.
-/
module

public import proofs.«01_k».proof.Proof.Launch

@[expose] public section

set_option maxRecDepth 16384

noncomputable section

namespace Cert.KernelIdeal.Talk

open Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- Device `c`'s buffers at the end. -/
def V2 (c : Dev nD) : Valuation τ sig (Elt F) := StableHlo.after hostOps1 (V1 m c)

/-- What no operation after the packing writes, and no window stages, is as launched. -/
theorem V2_arg0 (c : Dev nD) : V2 m c main_arg0 = m ((c : Thread nD τ).loc main_arg0) := by
  unfold V2
  rw [StableHlo.after_of_forall_not_mem (b := Proc.devRef .tc main_arg0) _ _ (List.forall_iff_forall_mem.mp (by
      simp only [hostOps1, List.Forall, StableHlo.unary_writes, StableHlo.reshape_writes, Finset.mem_singleton]
      repeat' apply And.intro
      all_goals exact StableHlo.devRef_ne_of_ne (by decide)))]
  exact (Pipeline.withArrays_of_ne spec0 c (V0 m c) _ main_arg0 (by decide)).trans (V_main_arg0 m c)
theorem V2_arg1 (c : Dev nD) : V2 m c main_arg1 = m ((c : Thread nD τ).loc main_arg1) := by
  unfold V2
  rw [StableHlo.after_of_forall_not_mem (b := Proc.devRef .tc main_arg1) _ _ (List.forall_iff_forall_mem.mp (by
      simp only [hostOps1, List.Forall, StableHlo.unary_writes, StableHlo.reshape_writes, Finset.mem_singleton]
      repeat' apply And.intro
      all_goals exact StableHlo.devRef_ne_of_ne (by decide)))]
  exact (Pipeline.withArrays_of_ne spec0 c (V0 m c) _ main_arg1 (by decide)).trans (V_main_arg1 m c)
theorem V2_arg2 (c : Dev nD) : V2 m c main_arg2 = m ((c : Thread nD τ).loc main_arg2) := by
  unfold V2
  rw [StableHlo.after_of_forall_not_mem (b := Proc.devRef .tc main_arg2) _ _ (List.forall_iff_forall_mem.mp (by
      simp only [hostOps1, List.Forall, StableHlo.unary_writes, StableHlo.reshape_writes, Finset.mem_singleton]
      repeat' apply And.intro
      all_goals exact StableHlo.devRef_ne_of_ne (by decide)))]
  exact (Pipeline.withArrays_of_ne spec0 c (V0 m c) _ main_arg2 (by decide)).trans (V_main_arg2 m c)

/-- The three arguments and the result, out of all that a device holds. -/
def four : Finset (DevRef τ sig) := {Proc.devRef .tc main_arg0, Proc.devRef .tc main_arg1, Proc.devRef .tc main_arg2, Proc.devRef .tc main_v18}
theorem four_sub : four ⊆ bufs := by decide
theorem four_eq (c : Dev nD) (W : Valuation τ sig (Elt F)) : (StableHlo.held (c.tc : Thread nD τ) four W : sProp 𝕄)
    = iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v18 ↦{fullShare} W main_v18)) := by
  unfold StableHlo.held
  rw [bigSep_eq_bigSepL_of_eq [Proc.devRef .tc main_arg0, Proc.devRef .tc main_arg1, Proc.devRef .tc main_arg2, Proc.devRef .tc main_v18] (by decide) (by decide)]
  rfl

/-- What a device holds at the end. -/
abbrev Tₙ (c : Dev nD) : sProp 𝕄 := iprop(StableHlo.held (c.tc : Thread nD τ) bufs (V2 m c) ∗ semVal (barC c) 0)

theorem unscoped_eq : ∀ sm : SemLoc sig, sm.isScoped .tc = false → sm = .reg barS := by decide

set_option backward.isDefEq.respectTransparency.types false in
/-- From any memory and zero counters every weakly fair execution ends, with the arguments unchanged, the result at what the
    three segments compute, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v18) = V2 m c main_v18) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg_pre m c, fun c => reg_post m c, fun c => ?_⟩
      show iprop(StableHlo.held (c.tc : Thread nD τ) bufs (V2 m c) ∗ R1 c)
        ⊢ iprop(Tₙ m c ∗ ∃ W, owes (c : Thread nD τ) (0 : CellTallies nD τ sig Unit) W)
      unfold R1 Yk owe
      iintro ⟨Hh, Hb, HO⟩
      isplitr [HO]
      · isplitl [Hh] <;> iassumption
      · iexact HO)
    (hinit := init m ρ)
    (QY := fun c s => (s.mem ((c : Thread nD τ).loc main_arg0) = V2 m c main_arg0 ∧ s.mem ((c : Thread nD τ).loc main_arg1) = V2 m c main_arg1
        ∧ s.mem ((c : Thread nD τ).loc main_arg2) = V2 m c main_arg2 ∧ s.mem ((c : Thread nD τ).loc main_v18) = V2 m c main_v18)
      ∧ s.sem (barC c) = 0)
    (hfin := fun c s' => by
      dsimp only [Tₙ]; rw [StableHlo.held_sub_split (c.tc : Thread nD τ) four_sub, four_eq]
      iintro ⟨⟨⟨⟨H0, H1, H2, H3⟩, -⟩, Hb0⟩, HSI⟩
      icombine HSI H0 gives %h0
      icombine HSI H1 gives %h1
      icombine HSI H2 gives %h2
      icombine HSI H3 gives %h3
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        rw [V2_arg0] at h0; rw [V2_arg1] at h1; rw [V2_arg2] at h2
        exact ⟨h0, h1, h2, h3⟩,
      sem_eq_zero hs fun c sm hsm => by
        obtain rfl := unscoped_eq sm hsm
        exact (h c).2⟩)

end Cert.KernelIdeal.Talk

end
-- ==== Proof.Frames.lean ====
/-
  The three frames. The kernel and its reading over the extended reals have one text, so both take theirs from the one run;
  the reference is a list of host operations and has no semaphore at all.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Main

@[expose] public section

noncomputable section

namespace Cert.Proof

open Idealize.ShloMosaic Idealize.ShloMosaic.TcCoe Idealize.SL.Sem

/-- The run with the result forgotten. -/
theorem quiet {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run Cert.KernelIdeal.defs _ _).mono (fun _ h => ⟨fun c => ⟨(h.1 c).1, (h.1 c).2.1, (h.1 c).2.2.1⟩, h.2⟩)
    (Cert.KernelIdeal.Talk.run_main (F := F) m ρ)

/-- The two programs have the same bodies, -/
theorem bodies : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl

/-- and so the same calls. -/
theorem calls : @Cert.Kernel.defs Bits _ _ = @Cert.KernelIdeal.defs Bits _ _ := by
  unfold Cert.Kernel.defs Cert.KernelIdeal.defs
  exact congrArg (Pipeline.defs Cert.KernelIdeal.pcfgs) bodies

theorem frame_kernel : Cert.quiescent_Kernel := fun m ρ _ => by
  rw [calls]
  exact quiet (F := Bits) m ρ

theorem frame_ideal : Cert.quiescent_KernelIdeal := fun m ρ _ => quiet (F := Ideal) m ρ

theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run (F := Ideal) m ρ)

end Cert.Proof

end
-- ==== Proof.Row.lean ====
/-
  One row of attention over the extended reals. Both programs weigh the values of a row by the exponentials of its scores less
  their maximum. One divides each weight by the sum of the weights, the other divides once at the end, and one scales the
  queries where the other scales the scores. On finite scores the two rows are equal, whatever the values are.
-/
module

public import Idealize.ShloMosaic.PureOps.Ideal.Laws

@[expose] public section

noncomputable section

namespace Cert.Row

open Idealize.ShloMosaic

variable {n : Nat}

/-- The greatest score of a row. -/
def top (s : Fin n → EReal) : EReal := (Finset.univ : Finset (Fin n)).fold max ⊥ s
/-- The weight of position `j`. -/
def wt (s : Fin n → EReal) (j : Fin n) : EReal := Ideal.exp (s j - top s)
/-- The weights' sum. -/
def den (s : Fin n → EReal) : EReal := ∑ j, wt s j
/-- The row, divided once at the end. -/
def late (s v : Fin n → EReal) : EReal := Ideal.div (∑ j, wt s j * v j) (den s)
/-- The row, each weight divided first. -/
def early (s v : Fin n → EReal) : EReal := ∑ j, v j * Ideal.div (wt s j) (den s)

/-- A finite extended real. -/
def Fin' (x : EReal) : Prop := x ≠ ⊤ ∧ x ≠ ⊥

theorem Fin'.real {x : EReal} (h : Fin' x) : ∃ r : ℝ, x = r := ⟨x.toReal, (EReal.coe_toReal h.1 h.2).symm⟩
theorem fin_coe (r : ℝ) : Fin' (r : EReal) := ⟨EReal.coe_ne_top r, EReal.coe_ne_bot r⟩

theorem Fin'.mul {x y : EReal} (hx : Fin' x) (hy : Fin' y) : Fin' (x * y) := by
  obtain ⟨a, rfl⟩ := hx.real
  obtain ⟨b, rfl⟩ := hy.real
  rw [← EReal.coe_mul]; exact fin_coe _

theorem Fin'.sum {ι : Type} (S : Finset ι) {f : ι → EReal} (h : ∀ i, Fin' (f i)) : Fin' (∑ i ∈ S, f i) := by
  classical
  induction S using Finset.induction_on with
  | empty => rw [Finset.sum_empty]; exact fin_coe 0
  | insert a S ha ih =>
    rw [Finset.sum_insert ha]
    obtain ⟨x, hx⟩ := (h a).real
    obtain ⟨y, hy⟩ := ih.real
    rw [hx, hy, ← EReal.coe_add]; exact fin_coe _

/-- A finite factor that isn't negative moves out of a sum. -/
theorem mul_sum' {ι : Type} (S : Finset ι) (f : ι → EReal) {c : EReal} (h0 : 0 ≤ c) (ht : c ≠ ⊤) :
    c * ∑ i ∈ S, f i = ∑ i ∈ S, c * f i := by
  classical
  induction S using Finset.induction_on with
  | empty => rw [Finset.sum_empty, Finset.sum_empty, mul_zero]
  | insert a S ha ih => rw [Finset.sum_insert ha, Finset.sum_insert ha, EReal.left_distrib_of_nonneg_of_ne_top h0 ht, ih]

/-- Scaling the queries is scaling the scores. -/
theorem scale {ι : Type} (S : Finset ι) (q k : ι → EReal) {c : EReal} (h0 : 0 ≤ c) (ht : c ≠ ⊤) :
    ∑ i ∈ S, (q i * c) * k i = (∑ i ∈ S, q i * k i) * c := by
  rw [mul_comm _ c, mul_sum' S _ h0 ht]
  exact Finset.sum_congr rfl fun i _ => by rw [mul_comm (q i) c, mul_assoc]

/-- The greatest score of finite scores is one of them. -/
theorem top_mem (s : Fin n → EReal) (hn : 0 < n) (hs : ∀ j, Fin' (s j)) : ∃ j, top s = s j := by
  have key : ∀ S : Finset (Fin n), S.fold max ⊥ s = ⊥ ∧ S = ∅ ∨ ∃ j, S.fold max ⊥ s = s j := by
    intro S
    classical
    induction S using Finset.induction_on with
    | empty => exact .inl ⟨Finset.fold_empty, rfl⟩
    | insert a S ha ih =>
      rw [Finset.fold_insert ha]
      refine .inr ?_
      rcases ih with ⟨h, -⟩ | ⟨j, h⟩
      · exact ⟨a, by rw [h]; exact max_eq_left bot_le⟩
      · rw [h]
        rcases max_choice (s a) (s j) with h | h
        · exact ⟨a, h⟩
        · exact ⟨j, h⟩
  rcases key Finset.univ with ⟨-, h⟩ | h
  · exact absurd (Finset.mem_univ (⟨0, hn⟩ : Fin n)) (by rw [h]; exact Finset.notMem_empty _)
  · exact h

/-- Finite scores have positive finite weights. -/
theorem wt_real (s : Fin n → EReal) (hn : 0 < n) (hs : ∀ j, Fin' (s j)) (j : Fin n) : ∃ r : ℝ, 0 < r ∧ wt s j = r := by
  obtain ⟨k, hk⟩ := top_mem s hn hs
  obtain ⟨a, ha⟩ := (hs j).real
  obtain ⟨b, hb⟩ := (hs k).real
  refine ⟨Real.exp (a - b), Real.exp_pos _, ?_⟩
  rw [wt, hk, ha, hb, ← EReal.coe_sub]
  rfl

/-- So their sum is positive and finite. -/
theorem den_real (s : Fin n → EReal) (hn : 0 < n) (hs : ∀ j, Fin' (s j)) : ∃ r : ℝ, 0 < r ∧ den s = r := by
  choose w hw0 hw using wt_real s hn hs
  refine ⟨∑ j, w j, Finset.sum_pos (fun j _ => hw0 j) ⟨⟨0, hn⟩, Finset.mem_univ _⟩, ?_⟩
  rw [den, Finset.sum_congr rfl fun j _ => hw j]
  exact (map_sum (⟨⟨Real.toEReal, EReal.coe_zero⟩, EReal.coe_add⟩ : ℝ →+ EReal) w Finset.univ).symm

/-- On finite scores the two rows are equal. -/
theorem late_eq_early (s v : Fin n → EReal) (hn : 0 < n) (hs : ∀ j, Fin' (s j)) : late s v = early s v := by
  obtain ⟨r, hr, hd⟩ := den_real s hn hs
  have h0 : ((r : ℝ) : EReal) ≠ 0 := by exact_mod_cast hr.ne'
  have hi : ((r : ℝ) : EReal)⁻¹ = ((r⁻¹ : ℝ) : EReal) := (EReal.coe_inv r).symm
  unfold late early Ideal.div
  simp only [hd, if_neg h0]
  rw [hi, mul_comm, mul_sum' _ _ (by exact_mod_cast (inv_pos.mpr hr).le) (EReal.coe_ne_top _)]
  exact Finset.sum_congr rfl fun j _ => by rw [mul_comm (v j), mul_comm (wt s j) (r⁻¹ : ℝ), mul_assoc]

end Cert.Row

end
-- ==== Proof.Half.lean ====
/-
  One tile of the kernel's attention over the extended reals, read at an index: each half of a tile's columns is one head, and
  each of its rows is a row of attention over the 2048 gathered positions.
-/
module

public import proofs.«01_k».proof.Proof.Loop
public import proofs.«01_k».proof.Proof.Row
public import Idealize.ShloMosaic.Lib.MatmulPlain
public import Idealize.ShloMosaic.Lib.ValueLayout
public import Idealize.ShloMosaic.Lib.ValueLayoutCasts

@[expose] public section

set_option maxRecDepth 16384

noncomputable section

namespace Cert.KernelIdeal.Talk

open Cert.KernelIdeal.Gen
open Idealize.ShloMosaic Idealize.ShloMosaic.ValueIdx

/-- The scores of one head's tile. -/
def scoresT (q : FVec Ideal S512x64 .bf16) (k : FVec Ideal S2048x64 .bf16) : FVec Ideal S512x2048 .f32 :=
  matmul dot_S512x64_S2048x64_S512x2048_1_1_0_0_n_n none q k (constant S512x2048 .f32 0x00000000#32)

/-- Their exponentials, each row less its maximum. -/
def expsT (s : FVec Ideal S512x2048 .f32) : FVec Ideal S512x2048 .f32 :=
  exp (subf s (broadcastTo S512x2048 (shapeCast S512x1 (multiReduction .maximumf [1] S512 s 0xFF800000#32 reduces_S512x2048_S512 (.inl rfl) rfl)
    shapeCasts_S512_S512x1) broadcasts_S512x1_S512x2048))

/-- One head's tile of the result. -/
def headT (p : FVec Ideal S512x2048 .f32) (v : FVec Ideal S2048x64 .bf16) : FVec Ideal S512x64 .f32 :=
  divf (matmul dot_S512x2048_S2048x64_S512x64_1_0_0_1_n_n none (truncf .bf16 p bitsLt_bf16_f32) v (constant S512x64 .f32 0x00000000#32))
    (broadcastTo S512x64 (shapeCast S512x1 (multiReduction .add [1] S512 p 0x00000000#32 reduces_S512x2048_S512 (.inl rfl) rfl)
      shapeCasts_S512_S512x1) broadcasts_S512x1_S512x64)

theorem scoresT_apply (q : FVec Ideal S512x64 .bf16) (k : FVec Ideal S2048x64 .bf16) (r : Fin 512) (j : Fin 2048) :
    scoresT q k (ix2 r j) = ∑ d : Fin 64, q (ix2 r d) * k (ix2 j d) := by
  refine (Ideal.matmul_transposedRhs_apply (M := 512) (K := 64) (N := 2048) none q k _ r j).trans ?_
  show Ideal.ofBits .f32 0x00000000#32 + _ = _
  rw [Ideal.ofBits_zero_f32, zero_add]

theorem lift_row (h : S512x2048.Reduces [1] S512) (r : Fin 512) (j : Fin 2048) : h.lift (ix1 r) j = ix2 r j := by
  funext a; apply Fin.ext
  match a with
  | ⟨0, _⟩ => rfl
  | ⟨1, _⟩ => rfl

theorem column_apply {b : Nat} (x : (⟨1, ![512]⟩ : Shape).Idx → EReal) (h : (⟨1, ![512]⟩ : Shape).ShapeCasts ⟨2, ![512, 1]⟩)
    (h' : (⟨2, ![512, 1]⟩ : Shape).Broadcasts ⟨2, ![512, b]⟩) (r : Fin 512) (j : Fin b) :
    broadcastTo ⟨2, ![512, b]⟩ (shapeCast ⟨2, ![512, 1]⟩ x h) h' (ix2 r j) = x (ix1 r) := by
  refine (broadcastTo_apply _ h' (ix2 r j) (ix2 r (0 : Fin 1)) fun a => ?_).trans (shapeCast_a_a1_apply x h r 0)
  match a with
  | ⟨0, _⟩ => rfl
  | ⟨1, _⟩ => rfl

theorem neg_inf : Ideal.ofBits .f32 0xFF800000#32 = ⊥ := by simp [Ideal.ofBits, Ideal.ieee]

theorem expsT_apply (s : FVec Ideal S512x2048 .f32) (r : Fin 512) (j : Fin 2048) :
    expsT s (ix2 r j) = Row.wt (fun j : Fin 2048 => s (ix2 r j)) j := by
  show Ideal.exp (s (ix2 r j) - _) = Ideal.exp (s (ix2 r j) - _)
  refine congrArg (fun t => Ideal.exp (s (ix2 r j) - t)) ?_
  refine (column_apply (b := 2048) _ shapeCasts_S512_S512x1 broadcasts_S512x1_S512x2048 r j).trans ?_
  refine (Ideal.multiReduction_maximumf_single s _ reduces_S512x2048_S512 _ _ (ix1 r)).trans ?_
  unfold Row.top
  refine (congrArg (fun b => Finset.fold max b _ _) neg_inf).trans ?_
  exact congrArg (fun f => Finset.fold max ⊥ f Finset.univ) (funext fun j => congrArg s (lift_row _ r j))

theorem headT_apply (s : FVec Ideal S512x2048 .f32) (v : FVec Ideal S2048x64 .bf16) (r : Fin 512) (l : Fin 64) :
    headT (expsT s) v (ix2 r l) = Row.late (fun j : Fin 2048 => s (ix2 r j)) (fun j => v (ix2 j l)) := by
  unfold Row.late Row.den
  refine congrArg₂ Ideal.div ?_ ?_
  · refine (Ideal.matmul_plain_apply (M := 512) (K := 2048) (N := 64) none (truncf .bf16 (expsT s) bitsLt_bf16_f32) v _ r l).trans ?_
    show Ideal.ofBits .f32 0x00000000#32 + _ = _
    rw [Ideal.ofBits_zero_f32, zero_add]
    exact Finset.sum_congr rfl fun j _ => congrArg (· * v (ix2 j l)) (expsT_apply s r j)
  · refine (column_apply (b := 64) _ shapeCasts_S512_S512x1 broadcasts_S512x1_S512x64 r l).trans ?_
    refine (Ideal.multiReduction_add_single (expsT s) _ reduces_S512x2048_S512 _ _ (ix1 r)).trans ?_
    exact Finset.sum_congr rfl fun j _ => (congrArg (expsT s) (lift_row _ r j)).trans (expsT_apply s r j)

/-- The gathered slots of one tile, laid end to end. -/
def rowsT (B : S4x2x4x512x128.Idx → EReal) (a : Fin 2) (b : Fin 4) : FVec Ideal S2048x128 .bf16 :=
  k0_pay4 (F := Ideal) (gAt (F := Ideal) B 0 a b) (gAt (F := Ideal) B 1 a b) (gAt (F := Ideal) B 2 a b) (gAt (F := Ideal) B 3 a b)

theorem rowsT_apply (B : S4x2x4x512x128.Idx → EReal) (a : Fin 2) (b : Fin 4) (j : Fin 2048) (l : Fin 128) :
    rowsT B a b (ix2 j l) = B (ix5 (⟨j.val / 512, by omega⟩ : Fin 4) a b (⟨j.val % 512, by omega⟩ : Fin 512) l) := by
  refine (concatenate_ofFn_apply (t := S2048x128) (s₁ := S512x128) 0
    (fun z : Fin 4 => shapeCast S512x128 (gAt (F := Ideal) B z a b) shapeCasts_S1x1x1x512x128_S512x128)
    concatenates_S512x128_S512x128_S512x128_S512x128_S2048x128_d0 rfl 512 rfl (ix2 j l) (⟨j.val / 512, by omega⟩ : Fin 4) rfl
    (ix2 (⟨j.val % 512, by omega⟩ : Fin 512) l) rfl fun c hc => ?_).trans ?_
  · match c with
    | ⟨0, _⟩ => exact absurd rfl hc
    | ⟨1, _⟩ => rfl
  · refine (shapeCast_apply _ _ _ (ix5 (0 : Fin 1) (0 : Fin 1) (0 : Fin 1) (⟨j.val % 512, by omega⟩ : Fin 512) l) ?_).trans rfl
    rw [Shape.rowMajor_val_five, Shape.rowMajor_val_two]
    show (((0 * 1 + 0) * 1 + 0) * 512 + j.val % 512) * 128 + l.val = j.val % 512 * 128 + l.val
    omega

/-- Columns `o` to `o + 63` of the rows. -/
def tileCols {n : Nat} (o : Nat) (X : FVec Ideal ⟨2, ![n, 128]⟩ .bf16) (h : (⟨2, ![n, 128]⟩ : Shape).Slices ![0, o] ⟨2, ![n, 64]⟩) :
    FVec Ideal ⟨2, ![n, 64]⟩ .bf16 := extractStridedSlice ⟨2, ![n, 64]⟩ ![0, o] X h

/-- A tile is its two heads side by side. -/
theorem tile_eq (Q : S2x4x512x128.Idx → EReal) (KB VB : S4x2x4x512x128.Idx → EReal) (a : Fin 2) (b : Fin 4) :
    tile (F := Ideal) Q KB VB a b = shapeCast S1x1x512x128 (concatenate S512x128 1
      [⟨S512x64, headT (expsT (scoresT (tileCols 0 (k0_pay1 (F := Ideal) (qAt (F := Ideal) Q a b)) slices_S512x128_o0_0_S512x64)
          (tileCols 0 (rowsT KB a b) slices_S2048x128_o0_0_S2048x64))) (tileCols 0 (rowsT VB a b) slices_S2048x128_o0_0_S2048x64)⟩,
       ⟨S512x64, headT (expsT (scoresT (tileCols 64 (k0_pay1 (F := Ideal) (qAt (F := Ideal) Q a b)) slices_S512x128_o0_64_S512x64)
          (tileCols 64 (rowsT KB a b) slices_S2048x128_o0_64_S2048x64))) (tileCols 64 (rowsT VB a b) slices_S2048x128_o0_64_S2048x64)⟩]
      concatenates_S512x64_S512x64_S512x128_d1) shapeCasts_S512x128_S1x1x512x128 := rfl

theorem pay1_apply (Q : S2x4x512x128.Idx → EReal) (a : Fin 2) (b : Fin 4) (r : Fin 512) (l : Fin 128) :
    k0_pay1 (F := Ideal) (qAt (F := Ideal) Q a b) (ix2 r l) = Q (ix4 a b r l) := by
  refine (shapeCast_apply (qAt (F := Ideal) Q a b) shapeCasts_S1x1x512x128_S512x128 (ix2 r l) (ix4 (0 : Fin 1) (0 : Fin 1) r l) ?_).trans rfl
  rw [Shape.rowMajor_val_four, Shape.rowMajor_val_two]
  show ((0 * 1 + 0) * 512 + r.val) * 128 + l.val = r.val * 128 + l.val
  omega

/-- Lane `l` of half `e`. -/
def lane (e : Fin 2) (l : Fin 64) : Fin 128 := ⟨64 * e.val + l.val, by omega⟩

/-- One row of one head, over the packed arrays. -/
def rowK (Q : S2x4x512x128.Idx → EReal) (KB VB : S4x2x4x512x128.Idx → EReal) (a : Fin 2) (b : Fin 4) (e : Fin 2) (r : Fin 512)
    (l : Fin 64) : EReal :=
  Row.late
    (fun j : Fin 2048 => ∑ d : Fin 64, Q (ix4 a b r (lane e d))
      * KB (ix5 (⟨j.val / 512, by omega⟩ : Fin 4) a b (⟨j.val % 512, by omega⟩ : Fin 512) (lane e d)))
    (fun j : Fin 2048 => VB (ix5 (⟨j.val / 512, by omega⟩ : Fin 4) a b (⟨j.val % 512, by omega⟩ : Fin 512) (lane e l)))

theorem head_apply (Q : S2x4x512x128.Idx → EReal) (KB VB : S4x2x4x512x128.Idx → EReal) (a : Fin 2) (b : Fin 4) (e : Fin 2) (r : Fin 512)
    (l : Fin 64) (o : Nat) (ho : o = 64 * e.val) (h₁ : (⟨2, ![512, 128]⟩ : Shape).Slices ![0, o] ⟨2, ![512, 64]⟩)
    (h₂ : (⟨2, ![2048, 128]⟩ : Shape).Slices ![0, o] ⟨2, ![2048, 64]⟩) :
    headT (expsT (scoresT (tileCols o (k0_pay1 (F := Ideal) (qAt (F := Ideal) Q a b)) h₁) (tileCols o (rowsT KB a b) h₂)))
      (tileCols o (rowsT VB a b) h₂) (ix2 r l) = rowK Q KB VB a b e r l := by
  subst ho
  refine (headT_apply _ _ r l).trans ?_
  unfold rowK
  refine congrArg₂ Row.late (funext fun j => ?_) (funext fun j => ?_)
  · refine (scoresT_apply _ _ r j).trans (Finset.sum_congr rfl fun d _ => congrArg₂ (· * ·) ?_ ?_)
    · exact (slice2_axis1_apply _ _ h₁ r d (lane e d) rfl).trans (pay1_apply Q a b r (lane e d))
    · exact (slice2_axis1_apply _ _ h₂ j d (lane e d) rfl).trans (rowsT_apply KB a b j (lane e d))
  · exact (slice2_axis1_apply _ _ h₂ j l (lane e l) rfl).trans (rowsT_apply VB a b j (lane e l))

/-- The kernel's result at a packed index. -/
theorem outB_apply (Q : S2x4x512x128.Idx → EReal) (KB VB : S4x2x4x512x128.Idx → EReal) (a : Fin 2) (b : Fin 4) (e : Fin 2) (r : Fin 512)
    (l : Fin 64) : outB (F := Ideal) Q KB VB (ix4 a b r (lane e l)) = rowK Q KB VB a b e r l := by
  show tile (F := Ideal) Q KB VB a b (ix4 (0 : Fin 1) (0 : Fin 1) r (lane e l)) = _
  rw [tile_eq]
  refine (shapeCast_apply _ _ _ (ix2 r (lane e l)) ?_).trans ?_
  · rw [Shape.rowMajor_val_four, Shape.rowMajor_val_two]
    show r.val * 128 + (lane e l).val = ((0 * 1 + 0) * 512 + r.val) * 128 + (lane e l).val
    omega
  · match e with
    | 0 =>
      refine (concatenate_pair_apply_left (t := S512x128) 1 _ _ concatenates_S512x64_S512x64_S512x128_d1 _ rfl (ix2 r l) fun c => ?_).trans
        (head_apply Q KB VB a b 0 r l 0 rfl _ _)
      match c with
      | ⟨0, _⟩ => rfl
      | ⟨1, _⟩ => exact (Nat.zero_add _).symm
    | 1 =>
      refine (concatenate_pair_apply_right (t := S512x128) 1 _ _ concatenates_S512x64_S512x64_S512x128_d1 _ rfl rfl (ix2 r l) (fun c hc => ?_) ?_).trans
        (head_apply Q KB VB a b 1 r l 64 rfl _ _)
      · match c with
        | ⟨0, _⟩ => rfl
        | ⟨1, _⟩ => exact absurd rfl hc
      · exact Nat.add_comm _ _

end Cert.KernelIdeal.Talk

end
-- ==== Proof.Pack.lean ====
/-
  What the host's packing before the kernel, and its unpacking after it, put at each index: two heads lie side by side in the 128
  lanes of a packed row.
-/
module

public import proofs.«01_k».proof.Proof.Main
public import proofs.«01_k».proof.Proof.Half

@[expose] public section

set_option maxRecDepth 16384

noncomputable section

namespace Cert.KernelIdeal.Talk

open Cert.KernelIdeal.Gen
open Idealize.ShloMosaic hiding ix1 ix2 ix3 ix4 ix5
open Idealize.ShloMosaic.TcCoe Idealize.ShloMosaic.ValueIdx

/-- Head `e` of pair `p`. -/
def hd (p : Fin 4) (e : Fin 2) : Fin 8 := ⟨2 * p.val + e.val, by omega⟩

/-- The packing of an argument. -/
def packB (x : S2x512x8x64.Idx → EReal) : S2x4x512x128.Idx → EReal :=
  shapeCast S2x4x512x128 (transpose S2x4x512x2x64 [0, 1, 3, 2, 4] (shapeCast S2x4x2x512x64
    (transpose S2x8x512x64 [0, 2, 1, 3] x transposes_S2x512x8x64_S2x8x512x64_0_2_1_3) shapeCasts_S2x8x512x64_S2x4x2x512x64)
    transposes_S2x4x2x512x64_S2x4x512x2x64_0_1_3_2_4) shapeCasts_S2x4x512x2x64_S2x4x512x128

theorem packB_apply (x : S2x512x8x64.Idx → EReal) (a : Fin 2) (p : Fin 4) (r : Fin 512) (e : Fin 2) (l : Fin 64) :
    packB x (ix4 a p r (lane e l)) = x (ix4 a r (hd p e) l) := by
  refine (shapeCast_apply (s := S2x4x512x2x64) (t := S2x4x512x128) _ _ (ix4 a p r (lane e l)) (ix5 a p r e l) ?_).trans ?_
  · rw [Shape.rowMajor_val_five, Shape.rowMajor_val_four]
    show (((a.val * 4 + p.val) * 512 + r.val) * 2 + e.val) * 64 + l.val
      = ((a.val * 4 + p.val) * 512 + r.val) * 128 + (64 * e.val + l.val)
    omega
  refine (transpose_apply (s := S2x4x2x512x64) (t := S2x4x512x2x64) [0, 1, 3, 2, 4] _ _ (ix5 a p r e l) (ix5 a p e r l) fun b => ?_).trans ?_
  · match b with
    | ⟨0, _⟩ => rfl
    | ⟨1, _⟩ => rfl
    | ⟨2, _⟩ => rfl
    | ⟨3, _⟩ => rfl
    | ⟨4, _⟩ => rfl
  refine (shapeCast_apply (s := S2x8x512x64) (t := S2x4x2x512x64) _ _ (ix5 a p e r l) (ix4 a (hd p e) r l) ?_).trans ?_
  · rw [Shape.rowMajor_val_five, Shape.rowMajor_val_four]
    show ((a.val * 8 + (2 * p.val + e.val)) * 512 + r.val) * 64 + l.val
      = (((a.val * 4 + p.val) * 2 + e.val) * 512 + r.val) * 64 + l.val
    omega
  refine transpose_apply (s := S2x512x8x64) (t := S2x8x512x64) [0, 2, 1, 3] _ _ (ix4 a (hd p e) r l) (ix4 a r (hd p e) l) fun b => ?_
  match b with
  | ⟨0, _⟩ => rfl
  | ⟨1, _⟩ => rfl
  | ⟨2, _⟩ => rfl
  | ⟨3, _⟩ => rfl

/-- The unpacking of the result. -/
def unpackB (y : S2x4x512x128.Idx → EReal) : S2x512x8x64.Idx → EReal :=
  shapeCast S2x512x8x64 (transpose S2x512x4x2x64 [0, 2, 1, 3, 4] (shapeCast S2x4x512x2x64 y shapeCasts_S2x4x512x128_S2x4x512x2x64)
    transposes_S2x4x512x2x64_S2x512x4x2x64_0_2_1_3_4) shapeCasts_S2x512x4x2x64_S2x512x8x64

theorem unpackB_apply (y : S2x4x512x128.Idx → EReal) (a : Fin 2) (p : Fin 4) (r : Fin 512) (e : Fin 2) (l : Fin 64) :
    unpackB y (ix4 a r (hd p e) l) = y (ix4 a p r (lane e l)) := by
  refine (shapeCast_apply (s := S2x512x4x2x64) (t := S2x512x8x64) _ _ (ix4 a r (hd p e) l) (ix5 a r p e l) ?_).trans ?_
  · rw [Shape.rowMajor_val_five, Shape.rowMajor_val_four]
    show (((a.val * 512 + r.val) * 4 + p.val) * 2 + e.val) * 64 + l.val
      = ((a.val * 512 + r.val) * 8 + (2 * p.val + e.val)) * 64 + l.val
    omega
  refine (transpose_apply (s := S2x4x512x2x64) (t := S2x512x4x2x64) [0, 2, 1, 3, 4] _ _ (ix5 a r p e l) (ix5 a p r e l) fun b => ?_).trans ?_
  · match b with
    | ⟨0, _⟩ => rfl
    | ⟨1, _⟩ => rfl
    | ⟨2, _⟩ => rfl
    | ⟨3, _⟩ => rfl
    | ⟨4, _⟩ => rfl
  refine shapeCast_apply (s := S2x4x512x128) (t := S2x4x512x2x64) _ _ (ix5 a p r e l) (ix4 a p r (lane e l)) ?_
  rw [Shape.rowMajor_val_five, Shape.rowMajor_val_four]
  show ((a.val * 4 + p.val) * 512 + r.val) * 128 + (64 * e.val + l.val)
    = (((a.val * 4 + p.val) * 512 + r.val) * 2 + e.val) * 64 + l.val
  omega

variable (m : (ℓ : Loc nD τ sig) → Buf (Elt Ideal) ℓ)

/-- The first argument as device `c` holds it, times the literal. -/
def scaled (x : S2x512x8x64.Idx → EReal) : S2x512x8x64.Idx → EReal :=
  mulf (F := Ideal) (φ := .bf16) x (broadcastInDim S2x512x8x64 ![] bcast_S_S2x512x8x64 (constant (F := Ideal) S_ .bf16 0x3E00#16))

theorem V_q (c : Dev nD) : V m c main_v6 = packB (scaled (m ((c : Thread nD τ).loc main_arg0))) := by
  show StableHlo.after hostOps0 _ _ = _
  after_results
  rfl

theorem V_k (c : Dev nD) : V m c main_v10 = packB (m ((c : Thread nD τ).loc main_arg1)) := by
  show StableHlo.after hostOps0 _ _ = _
  after_results
  rfl

theorem V_v (c : Dev nD) : V m c main_v14 = packB (m ((c : Thread nD τ).loc main_arg2)) := by
  show StableHlo.after hostOps0 _ _ = _
  after_results
  rfl

theorem V2_out (c : Dev nD) : V2 m c main_v18 = unpackB (outF m c) := by
  have h : V2 m c main_v18 = unpackB (V1 m c main_v15) := by
    show StableHlo.after hostOps1 _ _ = _
    after_results
    rfl
  rw [h]
  exact congrArg unpackB ((V1_arr m c 3).trans (out_eq m c))

/-- The result at an index: one row of attention over the gathered arguments of the devices beside `c`. -/
theorem V2_apply (c : Dev nD) (a : Fin 2) (r : Fin 512) (p : Fin 4) (e : Fin 2) (l : Fin 64) :
    V2 m c main_v18 (ix4 a r (hd p e) l) = Row.late
      (fun j : Fin 2048 => ∑ d : Fin 64, scaled (m ((c : Thread nD τ).loc main_arg0)) (ix4 a r (hd p e) d)
        * m (((at' c ⟨j.val / 512, by omega⟩ : Dev nD) : Thread nD τ).loc main_arg1) (ix4 a (⟨j.val % 512, by omega⟩ : Fin 512) (hd p e) d))
      (fun j : Fin 2048 =>
        m (((at' c ⟨j.val / 512, by omega⟩ : Dev nD) : Thread nD τ).loc main_arg2) (ix4 a (⟨j.val % 512, by omega⟩ : Fin 512) (hd p e) l)) := by
  rw [V2_out, unpackB_apply]
  refine (outB_apply _ _ _ a p e r l).trans ?_
  unfold rowK
  refine congrArg₂ Row.late (funext fun j => Finset.sum_congr rfl fun d _ => congrArg₂ (· * ·) ?_ ?_) (funext fun j => ?_)
  · rw [V_q]; exact packB_apply _ a p r e d
  · exact (congrFun (V_k m _) _).trans (packB_apply _ a p _ e d)
  · exact (congrFun (V_v m _) _).trans (packB_apply _ a p _ e l)

end Cert.KernelIdeal.Talk

end
-- ==== Proof.Ref.lean ====
/-
  The reference's result at an index: one row of attention over the 2048 positions of the whole sequence.
-/
module

public import proofs.«01_k».proof.Proof.Gen.ReferenceIdeal.Run
public import proofs.«01_k».proof.Proof.Row
public import Idealize.ShloMosaic.Lib.IdealHost
public import Idealize.ShloMosaic.Lib.ValueLayout
public import Idealize.ShloMosaic.PureOps.Ideal.Laws
public import Idealize.ShloMosaic.PureOps.Reduce

@[expose] public section

set_option maxRecDepth 16384

noncomputable section

namespace Cert.ReferenceIdeal.Rows

open Cert.ReferenceIdeal Cert.ReferenceIdeal.Gen
open Idealize.ShloMosaic Idealize.ShloMosaic.ValueIdx

/-- The scores, scaled. -/
def scores (Q K : FVec Ideal S2x2048x8x64 .bf16) : FVec Ideal S2x8x2048x2048 .f32 :=
  mulf (Host.dotGeneral dot_S2x2048x8x64_S2x2048x8x64_S2x8x2048x2048_3_3_1_1_02_02 none (extf .f32 Q bitsLt_bf16_f32) (extf .f32 K bitsLt_bf16_f32))
    (broadcastInDim S2x8x2048x2048 ![] bcast_S_S2x8x2048x2048 (constant S_ .f32 0x3E000000#32))

/-- A value per row, laid along the row. -/
def along (x : FVec Ideal S2x8x2048 .f32) : FVec Ideal S2x8x2048x2048 .f32 :=
  broadcastInDim S2x8x2048x2048 ![0, 1, 2, 3] bcast_S2x8x2048x1_S2x8x2048x2048_0_1_2_3
    (broadcastInDim S2x8x2048x1 ![0, 1, 2] bcast_S2x8x2048_S2x8x2048x1_0_1_2 x)

/-- The exponentials of the scores, each row less its maximum. -/
def exps (s : FVec Ideal S2x8x2048x2048 .f32) : FVec Ideal S2x8x2048x2048 .f32 :=
  Host.exp (subf s (along (Host.reduce FloatOps.maximumf s (constant S_ .f32 0xFF800000#32) reducesTo_S2x8x2048x2048_S2x8x2048_d3 h_S_)))

/-- The weights, normalized. -/
def weights (p : FVec Ideal S2x8x2048x2048 .f32) : FVec Ideal S2x8x2048x2048 .f32 :=
  Host.divf p (along (Host.reduceAdd p (constant S_ .f32 0x00000000#32) reducesTo_S2x8x2048x2048_S2x8x2048_d3 h_S_))

/-- The reference's result. -/
def out (Q K V : FVec Ideal S2x2048x8x64 .bf16) : FVec Ideal S2x2048x8x64 .f32 :=
  transpose S2x2048x8x64 [0, 3, 1, 2] (Host.dotGeneral dot_S2x2048x8x64_S2x8x2048x2048_S2x8x64x2048_1_3_3_2_02_01 none (extf .f32 V bitsLt_bf16_f32)
    (weights (exps (scores Q K)))) transposes_S2x8x64x2048_S2x2048x8x64_0_3_1_2

theorem along_apply (x : FVec Ideal S2x8x2048 .f32) (b : Fin 2) (h : Fin 8) (q k : Fin 2048) : along x (ix4 b h q k) = x (ix3 b h q) := by
  refine (broadcastInDim_apply (s := S2x8x2048x1) (t := S2x8x2048x2048) ![0, 1, 2, 3] _ _ (ix4 b h q k) (ix4 b h q (0 : Fin 1)) fun a => ?_).trans ?_
  · match a with
    | ⟨0, _⟩ => rfl
    | ⟨1, _⟩ => rfl
    | ⟨2, _⟩ => rfl
    | ⟨3, _⟩ => rfl
  · refine broadcastInDim_apply (s := S2x8x2048) (t := S2x8x2048x1) ![0, 1, 2] _ _ (ix4 b h q (0 : Fin 1)) (ix3 b h q) fun a => ?_
    match a with
    | ⟨0, _⟩ => rfl
    | ⟨1, _⟩ => rfl
    | ⟨2, _⟩ => rfl

/-- The factor on the scores. -/
def factor : EReal := Ideal.ofBits .f32 0x3E000000#32

theorem scores_apply (Q K : FVec Ideal S2x2048x8x64 .bf16) (b : Fin 2) (h : Fin 8) (q k : Fin 2048) :
    scores Q K (ix4 b h q k) = (∑ d : Fin 64, Q (ix4 b q h d) * K (ix4 b k h d)) * factor := by
  show Host.dotGeneral (F := Ideal) _ none _ _ (ix4 b h q k) * _ = _
  refine congrArg₂ (· * ·) ?_ rfl
  simp only [Host.dotGeneral]
  rw [Ideal.dotGeneral_apply, ← Equiv.sum_comp (contrEquiv1 dot_S2x2048x8x64_S2x2048x8x64_S2x8x2048x2048_3_3_1_1_02_02 64 rfl rfl).symm]
  refine Finset.sum_congr rfl fun d _ => ?_
  have hd := contrEquiv1_symm_val dot_S2x2048x8x64_S2x2048x8x64_S2x8x2048x2048_3_3_1_1_02_02 64 rfl rfl d
  refine congrArg₂ (· * ·) (congrArg Q ?_) (congrArg K ?_)
  · funext a; apply Fin.ext
    match a with
    | ⟨0, _⟩ => rfl
    | ⟨1, _⟩ => rfl
    | ⟨2, _⟩ => rfl
    | ⟨3, _⟩ => exact hd
  · funext a; apply Fin.ext
    match a with
    | ⟨0, _⟩ => rfl
    | ⟨1, _⟩ => rfl
    | ⟨2, _⟩ => rfl
    | ⟨3, _⟩ => exact hd

theorem reduces : S2x8x2048x2048.Reduces [3] S2x8x2048 := by decide

theorem lift_row (b : Fin 2) (h : Fin 8) (q k : Fin 2048) : reduces.lift (ix3 b h q) k = ix4 b h q k := by
  funext a; apply Fin.ext
  match a with
  | ⟨0, _⟩ => rfl
  | ⟨1, _⟩ => rfl
  | ⟨2, _⟩ => rfl
  | ⟨3, _⟩ => rfl

theorem neg_inf : Ideal.ofBits .f32 0xFF800000#32 = ⊥ := by simp [Ideal.ofBits, Ideal.ieee]

theorem max_apply (s : FVec Ideal S2x8x2048x2048 .f32) (b : Fin 2) (h : Fin 8) (q : Fin 2048) :
    Host.reduce (FloatOps.maximumf (F := Ideal) (φ := .f32)) s (constant S_ .f32 0xFF800000#32) reducesTo_S2x8x2048x2048_S2x8x2048_d3 h_S_ (ix3 b h q)
      = Row.top (fun k : Fin 2048 => s (ix4 b h q k)) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  refine (Host.reduce_eq_fold_single (FloatOps.maximumf (F := Ideal) (φ := .f32)) s _ reducesTo_S2x8x2048x2048_S2x8x2048_d3 reduces h_S_
    (ix3 b h q)).trans ?_
  unfold Row.top
  refine (congrArg (fun b => Finset.fold (max : EReal → EReal → EReal) b _ _) neg_inf).trans ?_
  exact congrArg (fun f => Finset.fold max (⊥ : EReal) f Finset.univ) (funext fun k => congrArg s (lift_row b h q k))

theorem exps_apply (s : FVec Ideal S2x8x2048x2048 .f32) (b : Fin 2) (h : Fin 8) (q k : Fin 2048) :
    exps s (ix4 b h q k) = Row.wt (fun k : Fin 2048 => s (ix4 b h q k)) k := by
  show Ideal.exp (s (ix4 b h q k) - _) = Ideal.exp (s (ix4 b h q k) - _)
  refine congrArg (fun t => Ideal.exp (s (ix4 b h q k) - t)) ?_
  exact (along_apply _ b h q k).trans (max_apply s b h q)

theorem weights_apply (s : FVec Ideal S2x8x2048x2048 .f32) (b : Fin 2) (h : Fin 8) (q k : Fin 2048) :
    weights (exps s) (ix4 b h q k)
      = Ideal.div (Row.wt (fun k : Fin 2048 => s (ix4 b h q k)) k) (Row.den (fun k : Fin 2048 => s (ix4 b h q k))) := by
  refine congrArg₂ Ideal.div (exps_apply s b h q k) ?_
  refine (along_apply _ b h q k).trans ?_
  refine (Ideal.hostReduceAdd_single reducesTo_S2x8x2048x2048_S2x8x2048_d3 reduces (exps s) _ (ix3 b h q)).trans ?_
  refine (congrArg (· + _) Ideal.ofBits_zero_f32).trans ((zero_add _).trans ?_)
  exact Finset.sum_congr rfl fun k _ => (congrArg (exps s) (lift_row b h q k)).trans (exps_apply s b h q k)

theorem out_apply (Q K V : FVec Ideal S2x2048x8x64 .bf16) (b : Fin 2) (q : Fin 2048) (h : Fin 8) (d : Fin 64) :
    out Q K V (ix4 b q h d) = Row.early
      (fun k : Fin 2048 => (∑ d : Fin 64, Q (ix4 b q h d) * K (ix4 b k h d)) * factor) (fun k => V (ix4 b k h d)) := by
  refine (transpose_apply (s := S2x8x64x2048) (t := S2x2048x8x64) [0, 3, 1, 2] _ _ (ix4 b q h d) (ix4 b h d q) fun a => ?_).trans ?_
  · match a with
    | ⟨0, _⟩ => rfl
    | ⟨1, _⟩ => rfl
    | ⟨2, _⟩ => rfl
    | ⟨3, _⟩ => rfl
  simp only [Host.dotGeneral]
  rw [Ideal.dotGeneral_apply, ← Equiv.sum_comp (contrEquiv1 dot_S2x2048x8x64_S2x8x2048x2048_S2x8x64x2048_1_3_3_2_02_01 2048 rfl rfl).symm]
  unfold Row.early
  refine Finset.sum_congr rfl fun k _ => ?_
  have hk := contrEquiv1_symm_val dot_S2x2048x8x64_S2x8x2048x2048_S2x8x64x2048_1_3_3_2_02_01 2048 rfl rfl k
  refine congrArg₂ (· * ·) (congrArg V ?_) ((congrArg (weights (exps (scores Q K))) (?_ : _ = ix4 b h q k)).trans ?_)
  · funext a; apply Fin.ext
    match a with
    | ⟨0, _⟩ => rfl
    | ⟨1, _⟩ => exact hk
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => exact hk
  · refine (weights_apply _ b h q k).trans ?_
    have hs : (fun k : Fin 2048 => scores Q K (ix4 b h q k))
        = fun k : Fin 2048 => (∑ d : Fin 64, Q (ix4 b q h d) * K (ix4 b k h d)) * factor := funext fun k => scores_apply Q K b h q k
    rw [hs]

end Cert.ReferenceIdeal.Rows

end
-- ==== Proof.Algebraic.lean ====
/-
  Over the extended reals the kernel computes the reference: each device's result is its part of the reference's. The kernel scales
  the queries and divides once at the end, the reference scales the scores and divides every weight; on finite scores the two agree.
-/
module

public import proofs.«01_k».proof.Proof.Frames
public import proofs.«01_k».proof.Proof.Pack
public import proofs.«01_k».proof.Proof.Ref

@[expose] public section

set_option maxRecDepth 16384

noncomputable section

namespace Cert.Proof

open Idealize.ShloMosaic hiding ix1 ix2 ix3 ix4 ix5
open Idealize.ShloMosaic.TcCoe Idealize.ShloMosaic.ValueIdx Idealize.SL.Sem
open Cert.KernelIdeal.Talk (at' hd)

/-- The side condition of the precondition's operations. -/
theorem pre_kernel : Cert.Pre_finite_KernelIdeal.Facts := ⟨by decide⟩
theorem pre_reference : Cert.Pre_finite_ReferenceIdeal.Facts := ⟨by decide⟩

theorem inf16 : Ideal.ofBits .bf16 0x7F80#16 = ⊤ := by simp [Ideal.ofBits, Ideal.ieee]

/-- What the precondition compares. -/
theorem fin_of_lt {x : EReal} (h : max x (-x) < ⊤) : Row.Fin' x := by
  refine ⟨fun e => ?_, fun e => ?_⟩
  · subst e; exact absurd h (by simp)
  · subst e; exact absurd h (by simp)

theorem fin_of_cmp {x y : EReal} (hy : y = ⊤) (h : Ideal.cmp .olt (max x (-x)) y = 1#1) : Row.Fin' x := by
  subst hy
  refine fin_of_lt ?_
  by_contra hn
  simp [Ideal.cmp, hn] at h

theorem and_one {a b : BitVec 1} (h : a &&& b = 1#1) : a = 1#1 ∧ b = 1#1 := by revert a b; decide

attribute [local instance] pre_kernel

/-- Under it, every element of the first two arguments is finite. -/
theorem fin_of_pre (Q K V : FVec Ideal ⟨4, ![2, 512, 8, 64]⟩ .bf16)
    (h : Cert.Pre_finite_KernelIdeal.fn (F := Ideal) Q K V = fun _ => 1#1) (i : (⟨4, ![2, 512, 8, 64]⟩ : Shape).Idx) :
    Row.Fin' (Q i) ∧ Row.Fin' (K i) := by
  have hi := and_one (congrFun h i)
  exact ⟨fin_of_cmp inf16 hi.1, fin_of_cmp inf16 hi.2⟩

/-- Where row `s` of device `c`'s part lies in the whole sequence. -/
def pos (c : Dev Cert.KernelIdeal.nD) (s : Fin 512) : Fin 2048 := ⟨c.val % 4 * 512 + s.val, by omega⟩

theorem coord (c : Fin 16) : Layout.meshLin [2, 2, 4] c.val [2] = c.val % 4 := by revert c; decide

theorem block_apply (c : Dev Cert.KernelIdeal.nD) {α : Type} (v : (⟨4, ![2, 2048, 8, 64]⟩ : Shape).Idx → α) (a : Fin 2) (s : Fin 512) (h : Fin 8)
    (d : Fin 64) :
    (Layout.blockN ⟨4, ![2, 512, 8, 64]⟩ ⟨4, ![2, 2048, 8, 64]⟩ (Layout.meshBlock [2, 2, 4] ![[], [2], [], []] c) v) (ix4 a s h d)
      = v (ix4 a (pos c s) h d) := by
  refine congrArg v (funext fun b => Fin.ext ?_)
  match b with
  | ⟨0, _⟩ => show 0 * 2 + a.val = a.val; omega
  | ⟨1, _⟩ =>
    show Layout.meshLin [2, 2, 4] c.val [2] * 512 + s.val = c.val % 4 * 512 + s.val
    rw [coord c]
  | ⟨2, _⟩ => show 0 * 8 + h.val = h.val; omega
  | ⟨3, _⟩ => show 0 * 64 + d.val = d.val; omega

/-- The gathered slots, end to end, are the whole sequence. -/
theorem pos_at (c : Dev Cert.KernelIdeal.nD) (j : Fin 2048) :
    pos (at' c ⟨j.val / 512, by omega⟩) ⟨j.val % 512, by omega⟩ = j := by
  apply Fin.ext
  show (c.val - c.val % 4 + j.val / 512) % 4 * 512 + j.val % 512 = j.val
  omega

/-- The one factor, in the two formats. -/
theorem eighth : Ideal.ofBits .bf16 0x3E00#16 = ((1 / 8 : ℝ) : EReal) := by
  have h : (128 : ℝ) * (2 ^ 10)⁻¹ = 1 / 8 := by norm_num
  rw [← h, EReal.coe_mul]; simp [Ideal.ofBits, Ideal.ieee]
theorem eighth' : Cert.ReferenceIdeal.Rows.factor = ((1 / 8 : ℝ) : EReal) := by
  have h : (8388608 : ℝ) * (2 ^ 26)⁻¹ = 1 / 8 := by norm_num
  rw [← h, EReal.coe_mul]; simp [Cert.ReferenceIdeal.Rows.factor, Ideal.ofBits, Ideal.ieee]

theorem scaled_apply (x : FVec Ideal ⟨4, ![2, 512, 8, 64]⟩ .bf16) (i : (⟨4, ![2, 512, 8, 64]⟩ : Shape).Idx) :
    Cert.KernelIdeal.Talk.scaled x i = x i * ((1 / 8 : ℝ) : EReal) := by
  show x i * Ideal.ofBits .bf16 0x3E00#16 = _
  rw [eighth]

/-- One element of the result. -/
theorem element (m : (ℓ : Loc Cert.KernelIdeal.nD Cert.KernelIdeal.τ Cert.KernelIdeal.sig) → Buf (Elt Ideal) ℓ)
    (Q K V : FVec Ideal ⟨4, ![2, 2048, 8, 64]⟩ .bf16) (hp : Cert.Pre_KernelIdeal_finite_KernelIdeal m)
    (hm : ∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 2, 4] ![[], [2], [], []] c) Q
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 2, 4] ![[], [2], [], []] c) K
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 2, 4] ![[], [2], [], []] c) V)
    (c : Dev Cert.KernelIdeal.nD) (a : Fin 2) (s : Fin 512) (p : Fin 4) (e : Fin 2) (l : Fin 64) :
    Cert.KernelIdeal.Talk.V2 m c Cert.KernelIdeal.main_v18 (ix4 a s (hd p e) l)
      = Cert.ReferenceIdeal.Rows.out Q K V (ix4 a (pos c s) (hd p e) l) := by
  have hq : ∀ d : Fin 64, m ((c.tc : Thread Cert.KernelIdeal.nD Cert.KernelIdeal.τ).loc Cert.KernelIdeal.main_arg0) (ix4 a s (hd p e) d)
      = Q (ix4 a (pos c s) (hd p e) d) := fun d => (congrFun (hm c).1 _).trans (block_apply c Q a s (hd p e) d)
  have hk : ∀ (j : Fin 2048) (d : Fin 64),
      m (((at' c ⟨j.val / 512, by omega⟩ : Dev Cert.KernelIdeal.nD).tc : Thread Cert.KernelIdeal.nD Cert.KernelIdeal.τ).loc Cert.KernelIdeal.main_arg1)
        (ix4 a (⟨j.val % 512, by omega⟩ : Fin 512) (hd p e) d) = K (ix4 a j (hd p e) d) := fun j d =>
    (congrFun (hm _).2.1 _).trans ((block_apply _ K a _ (hd p e) d).trans (by rw [pos_at]))
  have hv : ∀ (j : Fin 2048) (d : Fin 64),
      m (((at' c ⟨j.val / 512, by omega⟩ : Dev Cert.KernelIdeal.nD).tc : Thread Cert.KernelIdeal.nD Cert.KernelIdeal.τ).loc Cert.KernelIdeal.main_arg2)
        (ix4 a (⟨j.val % 512, by omega⟩ : Fin 512) (hd p e) d) = V (ix4 a j (hd p e) d) := fun j d =>
    (congrFun (hm _).2.2 _).trans ((block_apply _ V a _ (hd p e) d).trans (by rw [pos_at]))
  have fq : ∀ d : Fin 64, Row.Fin' (Q (ix4 a (pos c s) (hd p e) d)) := fun d => hq d ▸ (fin_of_pre _ _ _ (hp c) _).1
  have fk : ∀ (j : Fin 2048) (d : Fin 64), Row.Fin' (K (ix4 a j (hd p e) d)) := fun j d => hk j d ▸ (fin_of_pre _ _ _ (hp _) _).2
  refine (Cert.KernelIdeal.Talk.V2_apply m c a s p e l).trans (Eq.trans ?_ (Cert.ReferenceIdeal.Rows.out_apply Q K V a (pos c s) (hd p e) l).symm)
  rw [← Row.late_eq_early _ _ (by omega) fun j => (Row.Fin'.sum _ fun d => (fq d).mul (fk j d)).mul (eighth' ▸ Row.fin_coe _)]
  refine congrArg₂ Row.late (funext fun j => ?_) (funext fun j => hv j l)
  rw [eighth', ← Row.scale _ _ _ (by exact_mod_cast (by norm_num : (0 : ℝ) ≤ 1 / 8)) (EReal.coe_ne_top _)]
  exact Finset.sum_congr rfl fun d _ => congrArg₂ (· * ·) ((scaled_apply _ _).trans (congrArg (· * _) (hq d))) (hk j d)

/-- Any index of a device's part. -/
theorem idx_cases (i : (⟨4, ![2, 512, 8, 64]⟩ : Shape).Idx) :
    ∃ (a : Fin 2) (s : Fin 512) (p : Fin 4) (e : Fin 2) (l : Fin 64), i = ix4 a s (hd p e) l := by
  have h2 : (i 2).val < 8 := (i 2).isLt
  refine ⟨i 0, i 1, ⟨(i 2).val / 2, by omega⟩, ⟨(i 2).val % 2, by omega⟩, i 3, funext fun b => Fin.ext ?_⟩
  match b with
  | ⟨0, _⟩ => rfl
  | ⟨1, _⟩ => rfl
  | ⟨2, _⟩ => show (i 2).val = 2 * ((i 2).val / 2) + (i 2).val % 2; omega
  | ⟨3, _⟩ => rfl

theorem algebraic : Cert.algebraic_KernelIdeal_ReferenceIdeal_pre_finite_KernelIdeal := fun m g m' g' hp hm => by
  refine ⟨Cert.ReferenceIdeal.Rows.out
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ?_) (Cert.KernelIdeal.Talk.run_main (F := Ideal) m g)
    obtain ⟨h0, h1, h2, h3⟩ := h.1 c
    refine ⟨h3.trans (funext fun i => ?_), h0, h1, h2⟩
    obtain ⟨a, s, p, e, l, rfl⟩ := idx_cases i
    exact (element m _ _ _ hp hm c a s p e l).trans (block_apply c _ a s (hd p e) l).symm
  · exact (θ_run Cert.ReferenceIdeal.defs _ _).mono (fun r h => ⟨(h 0).1, (h 0).2.1, (h 0).2.2.1, (h 0).2.2.2⟩)
      (Cert.ReferenceIdeal.Value.run (F := Ideal) m' g')

end Cert.Proof

end
-- ==== Proof.lean ====
module

public import proofs.«01_k».proof.Proof.Algebraic

@[expose] public section

noncomputable section

namespace Cert.Proof

open Idealize.ShloMosaic

/-- Every claim. A frame under the precondition is the frame that doesn't need it. -/
theorem claim : Cert.Claim :=
  ⟨Cert.Kernel.Gen.facts, Cert.KernelIdeal.Gen.facts, Cert.ReferenceIdeal.Gen.facts, pre_kernel, pre_reference,
    frame_kernel, frame_ideal, fun m g _ => frame_ideal m g trivial, frame_reference, fun m g _ => frame_reference m g trivial, trivial,
    algebraic⟩

end Cert.Proof

end
